-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x768 : Shape := ⟨2, ![32768, 768]⟩
abbrev S768x64 : Shape := ⟨2, ![768, 64]⟩
abbrev S64 : Shape := ⟨1, ![64]⟩
abbrev S768x3072 : Shape := ⟨2, ![768, 3072]⟩
abbrev S3072 : Shape := ⟨1, ![3072]⟩
abbrev S3072x768 : Shape := ⟨2, ![3072, 768]⟩
abbrev S768 : Shape := ⟨1, ![768]⟩
abbrev S1x64 : Shape := ⟨2, ![1, 64]⟩
abbrev S1x3072 : Shape := ⟨2, ![1, 3072]⟩
abbrev S1x768 : Shape := ⟨2, ![1, 768]⟩
abbrev S1024x768 : Shape := ⟨2, ![1024, 768]⟩
abbrev S1024x3072 : Shape := ⟨2, ![1024, 3072]⟩
abbrev S1024x64 : Shape := ⟨2, ![1024, 64]⟩
abbrev S1024 : Shape := ⟨1, ![1024]⟩
abbrev S1024x1 : Shape := ⟨2, ![1024, 1]⟩
abbrev S1024x1024 : Shape := ⟨2, ![1024, 1024]⟩

abbrev nBuf : Space → Nat
  | .hbm => 11
  | .vmem => 11
  | .smem => 0
  | _ => 0

abbrev bufTy : (tb : Table) → Fin (tcTables nBuf tb) → BufTy
  | .hbm, ⟨0, _⟩ => ⟨S32768x768, .f32⟩
  | .hbm, ⟨1, _⟩ => ⟨S768x64, .f32⟩
  | .hbm, ⟨2, _⟩ => ⟨S64, .f32⟩
  | .hbm, ⟨3, _⟩ => ⟨S768x3072, .f32⟩
  | .hbm, ⟨4, _⟩ => ⟨S3072, .f32⟩
  | .hbm, ⟨5, _⟩ => ⟨S3072x768, .f32⟩
  | .hbm, ⟨6, _⟩ => ⟨S768, .f32⟩
  | .hbm, ⟨7, _⟩ => ⟨S1x64, .f32⟩
  | .hbm, ⟨8, _⟩ => ⟨S1x3072, .f32⟩
  | .hbm, ⟨9, _⟩ => ⟨S1x768, .f32⟩
  | .hbm, ⟨10, _⟩ => ⟨S32768x768, .f32⟩
  | .local _ .vmem, ⟨0, _⟩ => ⟨S1024x768, .f32⟩
  | .local _ .vmem, ⟨1, _⟩ => ⟨S1024x768, .f32⟩
  | .local _ .vmem, ⟨2, _⟩ => ⟨S768x64, .f32⟩
  | .local _ .vmem, ⟨3, _⟩ => ⟨S1x64, .f32⟩
  | .local _ .vmem, ⟨4, _⟩ => ⟨S768x3072, .f32⟩
  | .local _ .vmem, ⟨5, _⟩ => ⟨S1x3072, .f32⟩
  | .local _ .vmem, ⟨6, _⟩ => ⟨S3072x768, .f32⟩
  | .local _ .vmem, ⟨7, _⟩ => ⟨S1x768, .f32⟩
  | .local _ .vmem, ⟨8, _⟩ => ⟨S1024x768, .f32⟩
  | .local _ .vmem, ⟨9, _⟩ => ⟨S1024x768, .f32⟩
  | .local _ .vmem, ⟨10, _⟩ => ⟨S1x64, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S32768x768 : Shape := ⟨2, ![32768, 768]⟩
abbrev S768x64 : Shape := ⟨2, ![768, 64]⟩
abbrev S64 : Shape := ⟨1, ![64]⟩
abbrev S768x3072 : Shape := ⟨2, ![768, 3072]⟩
abbrev S3072 : Shape := ⟨1, ![3072]⟩
abbrev S3072x768 : Shape := ⟨2, ![3072, 768]⟩
abbrev S768 : Shape := ⟨1, ![768]⟩
abbrev S32768x64 : Shape := ⟨2, ![32768, 64]⟩
abbrev S1x64 : Shape := ⟨2, ![1, 64]⟩
abbrev S_ : Shape := ⟨0, ![]⟩
abbrev S32768 : Shape := ⟨1, ![32768]⟩
abbrev S32768x1 : Shape := ⟨2, ![32768, 1]⟩
abbrev S32768x1x1 : Shape := ⟨3, ![32768, 1, 1]⟩
abbrev S1 : Shape := ⟨1, ![1]⟩
abbrev S1x1x1 : Shape := ⟨3, ![1, 1, 1]⟩
abbrev S40960x768 : Shape := ⟨2, ![40960, 768]⟩
abbrev S40960x3072 : Shape := ⟨2, ![40960, 3072]⟩
abbrev S1x3072 : Shape := ⟨2, ![1, 3072]⟩
abbrev S1x768 : Shape := ⟨2, ![1, 768]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S32768x768, .f32⟩
  | 1 => ⟨S768x64, .f32⟩
  | 2 => ⟨S64, .f32⟩
  | 3 => ⟨S768x3072, .f32⟩
  | 4 => ⟨S3072, .f32⟩
  | 5 => ⟨S3072x768, .f32⟩
  | 6 => ⟨S768, .f32⟩
  | 7 => ⟨S32768x64, .f32⟩
  | 8 => ⟨S1x64, .f32⟩
  | 9 => ⟨S32768x64, .f32⟩
  | 10 => ⟨S32768x64, .f32⟩
  | 11 => ⟨S_, .f32⟩
  | 12 => ⟨S32768, .f32⟩
  | 13 => ⟨S_, .f32⟩
  | 14 => ⟨S32768, .f32⟩
  | 15 => ⟨S32768, .f32⟩
  | 16 => ⟨S32768x1, .f32⟩
  | 17 => ⟨S32768x64, .f32⟩
  | 18 => ⟨S32768x64, .f32⟩
  | 19 => ⟨S32768x64, .f32⟩
  | 20 => ⟨S_, .f32⟩
  | 21 => ⟨S32768, .f32⟩
  | 22 => ⟨S32768x1, .f32⟩
  | 23 => ⟨S32768x64, .f32⟩
  | 24 => ⟨S32768x64, .f32⟩
  | 25 => ⟨S_, .f32⟩
  | 26 => ⟨S32768, .f32⟩
  | 27 => ⟨S32768x64, .i32⟩
  | 28 => ⟨S_, .f32⟩
  | 29 => ⟨S_, .i32⟩
  | 30 => ⟨S32768, .f32⟩
  | 31 => ⟨S32768, .i32⟩
  | 32 => ⟨S32768x1, .i32⟩
  | 33 => ⟨S1x64, .i32⟩
  | 34 => ⟨S32768x64, .i32⟩
  | 35 => ⟨S32768x64, .i32⟩
  | 36 => ⟨S32768x64, .i1⟩
  | 37 => ⟨S32768x64, .i32⟩
  | 38 => ⟨S_, .i32⟩
  | 39 => ⟨S_, .i32⟩
  | 40 => ⟨S32768x64, .i32⟩
  | 41 => ⟨S_, .i32⟩
  | 42 => ⟨S32768x64, .i32⟩
  | 43 => ⟨S32768x64, .i32⟩
  | 44 => ⟨S32768x1, .i32⟩
  | 45 => ⟨S_, .i32⟩
  | 46 => ⟨S32768x1, .i32⟩
  | 47 => ⟨S32768x1, .i1⟩
  | 48 => ⟨S_, .i32⟩
  | 49 => ⟨S32768x1, .i32⟩
  | 50 => ⟨S32768x1, .i32⟩
  | 51 => ⟨S32768x1, .i32⟩
  | 52 => ⟨S32768x1x1, .i32⟩
  | 53 => ⟨S1, .i32⟩
  | 54 => ⟨S_, .i32⟩
  | 55 => ⟨S32768x1x1, .i32⟩
  | 56 => ⟨S32768x1x1, .i1⟩
  | 57 => ⟨S1x1x1, .i32⟩
  | 58 => ⟨S32768x1x1, .i32⟩
  | 59 => ⟨S32768x1x1, .i1⟩
  | 60 => ⟨S32768x1x1, .i1⟩
  | 61 => ⟨S_, .i1⟩
  | 62 => ⟨S32768x1, .i1⟩
  | 63 => ⟨S32768x1, .i32⟩
  | 64 => ⟨S_, .i32⟩
  | 65 => ⟨S32768x1, .i32⟩
  | 66 => ⟨S32768x1, .i32⟩
  | 67 => ⟨S32768, .i32⟩
  | 68 => ⟨S_, .i32⟩
  | 69 => ⟨S32768, .i32⟩
  | 70 => ⟨S32768, .i1⟩
  | 71 => ⟨S_, .i32⟩
  | 72 => ⟨S32768, .i32⟩
  | 73 => ⟨S32768, .i32⟩
  | 74 => ⟨S_, .i32⟩
  | 75 => ⟨S32768, .i32⟩
  | 76 => ⟨S32768, .i32⟩
  | 77 => ⟨S32768, .i32⟩
  | 78 => ⟨S_, .i32⟩
  | 79 => ⟨S_, .i32⟩
  | 80 => ⟨S32768, .i32⟩
  | 81 => ⟨S32768, .i32⟩
  | 82 => ⟨S_, .f32⟩
  | 83 => ⟨S40960x768, .f32⟩
  | 84 => ⟨S_, .i32⟩
  | 85 => ⟨S32768, .i32⟩
  | 86 => ⟨S32768, .i1⟩
  | 87 => ⟨S_, .i32⟩
  | 88 => ⟨S32768, .i32⟩
  | 89 => ⟨S32768, .i32⟩
  | 90 => ⟨S32768, .i32⟩
  | 91 => ⟨S32768x1, .i32⟩
  | 92 => ⟨S40960x768, .f32⟩
  | 93 => ⟨S40960x3072, .f32⟩
  | 94 => ⟨S1x3072, .f32⟩
  | 95 => ⟨S40960x3072, .f32⟩
  | 96 => ⟨S40960x3072, .f32⟩
  | 97 => ⟨S_, .f32⟩
  | 98 => ⟨S40960x3072, .f32⟩
  | 99 => ⟨S40960x3072, .f32⟩
  | 100 => ⟨S40960x3072, .f32⟩
  | 101 => ⟨S_, .f32⟩
  | 102 => ⟨S40960x3072, .f32⟩
  | 103 => ⟨S40960x3072, .f32⟩
  | 104 => ⟨S40960x3072, .f32⟩
  | 105 => ⟨S40960x3072, .f32⟩
  | 106 => ⟨S40960x768, .f32⟩
  | 107 => ⟨S1x768, .f32⟩
  | 108 => ⟨S40960x768, .f32⟩
  | 109 => ⟨S40960x768, .f32⟩
  | 110 => ⟨S_, .i32⟩
  | 111 => ⟨S32768, .i32⟩
  | 112 => ⟨S32768, .i1⟩
  | 113 => ⟨S_, .i32⟩
  | 114 => ⟨S32768, .i32⟩
  | 115 => ⟨S32768, .i32⟩
  | 116 => ⟨S32768, .i32⟩
  | 117 => ⟨S32768x1, .i32⟩
  | 118 => ⟨S1, .i32⟩
  | 119 => ⟨S_, .i32⟩
  | 120 => ⟨S32768x1, .i32⟩
  | 121 => ⟨S32768x1, .i1⟩
  | 122 => ⟨S1x1, .i32⟩
  | 123 => ⟨S32768x1, .i32⟩
  | 124 => ⟨S32768x1, .i1⟩
  | 125 => ⟨S32768x1, .i1⟩
  | 126 => ⟨S_, .i1⟩
  | 127 => ⟨S32768, .i1⟩
  | _ => ⟨S32768x768, .f32⟩

abbrev hbmTy0_1 (i : Nat) : BufTy := match i % 128 with
  | 0 => ⟨S32768x768, .f32⟩
  | 1 => ⟨S32768x768, .i1⟩
  | 2 => ⟨S_, .f32⟩
  | 3 => ⟨S32768x768, .f32⟩
  | 4 => ⟨S32768x768, .f32⟩
  | 5 => ⟨S32768x1, .i1⟩
  | 6 => ⟨S32768x768, .i1⟩
  | 7 => ⟨S32768x768, .f32⟩
  | 8 => ⟨S_, .f32⟩
  | 9 => ⟨S32768, .f32⟩
  | 10 => ⟨S32768, .f32⟩
  | 11 => ⟨S32768x1, .f32⟩
  | 12 => ⟨S32768x768, .f32⟩
  | 13 => ⟨S32768x768, .f32⟩
  | _ => ⟨S32768x768, .f32⟩

abbrev hbmTy (i : Nat) : BufTy := match i / 128 with
  | 0 => hbmTy0_0 i
  | 1 => hbmTy0_1 i
  | _ => ⟨S32768x768, .f32⟩

abbrev bufTy : (tb : Table) → Fin (tcTables nBuf tb) → BufTy
  | .hbm, ⟨i, _⟩ => hbmTy i
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_call0_v0 : Ref sig .tc := ⟨.hbm, 27, rfl⟩
abbrev main_call0_cst : Ref sig .tc := ⟨.hbm, 28, rfl⟩
abbrev main_call0_c : Ref sig .tc := ⟨.hbm, 29, rfl⟩
abbrev main_call0_v1_0 : Ref sig .tc := ⟨.hbm, 30, rfl⟩
abbrev main_v16 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v17 : Ref sig .tc := ⟨.hbm, 37, rfl⟩
abbrev main_call2_call0_c : Ref sig .tc := ⟨.hbm, 38, rfl⟩
abbrev main_call2_call0_v0 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_call3_c : Ref sig .tc := ⟨.hbm, 45, rfl⟩
abbrev main_call3_v0 : Ref sig .tc := ⟨.hbm, 46, rfl⟩
abbrev main_call3_v1 : Ref sig .tc := ⟨.hbm, 47, rfl⟩
abbrev main_call3_c_0 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_call3_v5 : Ref sig .tc := ⟨.hbm, 52, rfl⟩
abbrev main_call3_c_1 : Ref sig .tc := ⟨.hbm, 53, rfl⟩
abbrev main_call3_c_2 : Ref sig .tc := ⟨.hbm, 54, rfl⟩
abbrev main_call3_v6 : Ref sig .tc := ⟨.hbm, 55, rfl⟩
abbrev main_call3_v7 : Ref sig .tc := ⟨.hbm, 56, rfl⟩
abbrev main_call3_v8 : Ref sig .tc := ⟨.hbm, 57, rfl⟩
abbrev main_call3_v9 : Ref sig .tc := ⟨.hbm, 58, rfl⟩
abbrev main_call3_v10 : Ref sig .tc := ⟨.hbm, 59, rfl⟩
abbrev main_call3_v11 : Ref sig .tc := ⟨.hbm, 60, rfl⟩
abbrev main_call3_c_3 : Ref sig .tc := ⟨.hbm, 61, rfl⟩
abbrev main_call3_v12 : Ref sig .tc := ⟨.hbm, 62, rfl⟩
abbrev main_call3_v13 : Ref sig .tc := ⟨.hbm, 63, rfl⟩
abbrev main_call3_c_4 : Ref sig .tc := ⟨.hbm, 64, rfl⟩
abbrev main_call3_v14 : Ref sig .tc := ⟨.hbm, 65, rfl⟩
abbrev main_v22 : Ref sig .tc := ⟨.hbm, 66, rfl⟩
abbrev main_v23 : Ref sig .tc := ⟨.hbm, 67, rfl⟩
abbrev main_c_3 : Ref sig .tc := ⟨.hbm, 68, rfl⟩
abbrev main_v24 : Ref sig .tc := ⟨.hbm, 69, rfl⟩
abbrev main_v25 : Ref sig .tc := ⟨.hbm, 70, rfl⟩
abbrev main_c_4 : Ref sig .tc := ⟨.hbm, 71, rfl⟩
abbrev main_v26 : Ref sig .tc := ⟨.hbm, 72, rfl⟩
abbrev main_v27 : Ref sig .tc := ⟨.hbm, 73, rfl⟩
abbrev main_c_5 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_c_6 : Ref sig .tc := ⟨.hbm, 78, rfl⟩
abbrev main_call4_v0 : Ref sig .tc := ⟨.hbm, 79, rfl⟩
abbrev main_call4_v1 : Ref sig .tc := ⟨.hbm, 80, rfl⟩
abbrev main_v31 : Ref sig .tc := ⟨.hbm, 81, rfl⟩
abbrev main_cst_7 : Ref sig .tc := ⟨.hbm, 82, rfl⟩
abbrev main_v32 : Ref sig .tc := ⟨.hbm, 83, rfl⟩
abbrev main_c_8 : Ref sig .tc := ⟨.hbm, 84, rfl⟩
abbrev main_v33 : Ref sig .tc := ⟨.hbm, 85, rfl⟩
abbrev main_v34 : Ref sig .tc := ⟨.hbm, 86, rfl⟩
abbrev main_c_9 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_cst_10 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_cst_11 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_call5_c : Ref sig .tc := ⟨.hbm, 110, rfl⟩
abbrev main_call5_v0 : Ref sig .tc := ⟨.hbm, 111, rfl⟩
abbrev main_call5_v1 : Ref sig .tc := ⟨.hbm, 112, rfl⟩
abbrev main_call5_c_0 : Ref sig .tc := ⟨.hbm, 113, rfl⟩
abbrev main_call5_v2 : Ref sig .tc := ⟨.hbm, 114, rfl⟩
abbrev main_call5_v3 : Ref sig .tc := ⟨.hbm, 115, rfl⟩
abbrev main_call5_v4 : Ref sig .tc := ⟨.hbm, 116, rfl⟩
abbrev main_call5_v5 : Ref sig .tc := ⟨.hbm, 117, rfl⟩
abbrev main_call5_c_1 : Ref sig .tc := ⟨.hbm, 118, rfl⟩
abbrev main_call5_c_2 : Ref sig .tc := ⟨.hbm, 119, rfl⟩
abbrev main_call5_v6 : Ref sig .tc := ⟨.hbm, 120, rfl⟩
abbrev main_call5_v7 : Ref sig .tc := ⟨.hbm, 121, rfl⟩
abbrev main_call5_v8 : Ref sig .tc := ⟨.hbm, 122, rfl⟩
abbrev main_call5_v9 : Ref sig .tc := ⟨.hbm, 123, rfl⟩
abbrev main_call5_v10 : Ref sig .tc := ⟨.hbm, 124, rfl⟩
abbrev main_call5_v11 : Ref sig .tc := ⟨.hbm, 125, rfl⟩
abbrev main_call5_c_3 : Ref sig .tc := ⟨.hbm, 126, rfl⟩
abbrev main_call5_v12 : Ref sig .tc := ⟨.hbm, 127, rfl⟩
abbrev main_call5_v13 : Ref sig .tc := ⟨.hbm, 128, rfl⟩
abbrev main_call5_v14 : Ref sig .tc := ⟨.hbm, 129, rfl⟩
abbrev main_call5_cst : Ref sig .tc := ⟨.hbm, 130, rfl⟩
abbrev main_call5_v15 : Ref sig .tc := ⟨.hbm, 131, rfl⟩
abbrev main_v55 : Ref sig .tc := ⟨.hbm, 132, rfl⟩
abbrev main_v56 : Ref sig .tc := ⟨.hbm, 133, rfl⟩
abbrev main_call6_v0 : Ref sig .tc := ⟨.hbm, 134, rfl⟩
abbrev main_v57 : Ref sig .tc := ⟨.hbm, 135, rfl⟩
abbrev main_cst_12 : Ref sig .tc := ⟨.hbm, 136, rfl⟩
abbrev main_call7_v0 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩

abbrev nD : Nat := 1
abbrev τ : Topo := Topo.v7x

variable {F : FTy → Type} [FloatOps F]
-- ==== Proof.RefStages.lean ====
/- The reference's stages as functions of arrays: each definition is one step of the reference, on the arrays the steps
   before it left. -/
module

public import proofs.«01_k».proof.Proof.Gen.ReferenceIdeal
public import Idealize.ShloMosaic.Lib.StableHlo.Run

@[expose] public section

set_option Elab.async false

noncomputable section

namespace Cert.Moe.Ref

open Cert.ReferenceIdeal Cert.ReferenceIdeal.Gen Idealize.ShloMosaic Idealize.ShloMosaic.TcCoe Idealize.SL.Sem Idealize.ShloMosaic.StableHlo

variable {F : FTy → Type} [FloatOps F]

/-- The contents of an array of shape `s` and element type `e`. -/
abbrev Arr (F : FTy → Type) (s : Shape) (e : EltTy) : Type := (⟨s, e⟩ : BufTy).Contents (Elt F)

/-- The router's scores: the tokens times the router's weights, and its bias. -/
def logits (x : Arr F S32768x768 .f32) (ws : Arr F S768x64 .f32) (bs : Arr F S64 .f32) : Arr F S32768x64 .f32 :=
  addf (Host.dotGeneral dot_S32768x768_S768x64_S32768x64_1_0_0_1_n_n none x ws) (broadcastInDim S32768x64 ![0, 1] bcast_S1x64_S32768x64_0_1
    (broadcastInDim S1x64 ![1] bcast_S64_S1x64_1 bs))

/-- The exponentials of the scores less the greatest score of their row. -/
def expo (l : Arr F S32768x64 .f32) : Arr F S32768x64 .f32 :=
  Host.exp (subf l (broadcastInDim S32768x64 ![0, 1] bcast_S32768x1_S32768x64_0_1 (broadcastInDim S32768x1 ![0] bcast_S32768_S32768x1_0 (maximumf
    (broadcastInDim S32768 ![] bcast_S_S32768 (constant S_ .f32 0xFF800000#32)) (Host.reduce FloatOps.maximumf l (constant S_ .f32 0xFF800000#32)
    reducesTo_S32768x64_S32768_d1 h_S_)))))

/-- The exponentials over their row's sum. -/
def probs (e : Arr F S32768x64 .f32) : Arr F S32768x64 .f32 :=
  Host.divf e (broadcastInDim S32768x64 ![0, 1] bcast_S32768x1_S32768x64_0_1 (broadcastInDim S32768x1 ![0] bcast_S32768_S32768x1_0 (Host.reduceAdd e
    (constant S_ .f32 0x00000000#32) reducesTo_S32768x64_S32768_d1 h_S_)))

/-- The greatest probability of each row. -/
def best (p : Arr F S32768x64 .f32) : Arr F S32768 .f32 :=
  Host.reduce FloatOps.maximumf p (constant S_ .f32 0xFF800000#32) reducesTo_S32768x64_S32768_d1 h_S_

/-- The expert at which each row's greatest probability is first taken. -/
def routes (p : Arr F S32768x64 .f32) : Arr F S32768 .i32 :=
  fun j => (Host.argReduce reducer_argmax_f32_i32 p (iotaInDim S32768x64 32 1) (constant S_ .f32 0xFF800000#32) (constantI S_ 32 0#32)
    reducesTo_S32768x64_S32768_d1 h_S_ j).2

/-- One at each token's expert, zero elsewhere. -/
def oneHot (r : Arr F S32768 .i32) : Arr F S32768x64 .i32 :=
  extui 32 (cmpi .eq (broadcastInDim S32768x64 ![0, 1] bcast_S32768x1_S32768x64_0_1 (broadcastInDim S32768x1 ![0] bcast_S32768_S32768x1_0 r))
    (broadcastInDim S32768x64 ![0, 1] bcast_S1x64_S32768x64_0_1 (iotaInDim S1x64 32 1))) natLt_1_32

/-- The running counts down each expert's column. -/
def counts (h : Arr F S32768x64 .i32) : Arr F S32768x64 .i32 :=
  Host.reduceWindow IntOp.addi ![32768, 1] ![1, 1] ![32767, 0] ![0, 0] h (broadcastInDim S_ ![] bcast_S_S_ (constantI S_ 32 0#32))
    reduceWindows_S32768x64_S32768x64_w32768s1p32767_0_w1s1p0_0 h_S_

/-- The running counts less one. -/
def ranks (n : Arr F S32768x64 .i32) : Arr F S32768x64 .i32 :=
  subi n (broadcastInDim S32768x64 ![] bcast_S_S32768x64 (constantI S_ 32 1#32))

/-- The experts as one column. -/
def column (r : Arr F S32768 .i32) : Arr F S32768x1 .i32 :=
  broadcastInDim S32768x1 ![0] bcast_S32768_S32768x1_0 r

/-- The experts as indices: a negative one counts from the end. -/
def wrapped (q : Arr F S32768x1 .i32) : Arr F S32768x1x1 .i32 :=
  shapeCast S32768x1x1 (select (cmpi .slt q (broadcastInDim S32768x1 ![] bcast_S_S32768x1 (constantI S_ 32 0#32))) (addi q (broadcastInDim S32768x1
    ![] bcast_S_S32768x1 (constantI S_ 32 64#32))) q) shapeCasts_S32768x1_S32768x1x1

/-- Each token's entry of the ranks at its expert. -/
def picked (i : Arr F S32768x1x1 .i32) (k : Arr F S32768x64 .i32) : Arr F S32768x1 .i32 :=
  select (Host.reduce IntOp.andi (andi (cmpi .sge i (broadcastInDim S32768x1x1 ![] bcast_S_S32768x1x1 (constantI S_ 32 0#32))) (cmpi .sle i
    (broadcastInDim S32768x1x1 ![0, 1, 2] bcast_S1x1x1_S32768x1x1_0_1_2 (broadcastInDim S1x1x1 ![2] bcast_S1_S1x1x1_2 (constantI S1 32 63#32)))))
    (constantI S_ 1 1#1) reducesTo_S32768x1x1_S32768x1_d2 h_S_) (Host.gather gather_S32768x64_S32768x1x1_S32768x1_n_1_0_0_1_2_11 k i) (broadcastInDim
    S32768x1 ![] bcast_S_S32768x1 (constantI S_ 32 2147483648#32))

/-- The picked ranks as one row of words. -/
def positions (q : Arr F S32768x1 .i32) : Arr F S32768 .i32 :=
  shapeCast S32768 q shapeCasts_S32768x1_S32768

/-- Whether a token's rank is below the capacity. -/
def kept (a : Arr F S32768 .i32) : Arr F S32768 .i1 :=
  cmpi .slt a (broadcastInDim S32768 ![] bcast_S_S32768 (constantI S_ 32 640#32))

/-- The expert times the capacity, and the rank cut to the capacity. -/
def slots (r : Arr F S32768 .i32) (a : Arr F S32768 .i32) : Arr F S32768 .i32 :=
  addi (muli r (broadcastInDim S32768 ![] bcast_S_S32768 (constantI S_ 32 640#32))) (minsi a (broadcastInDim S32768 ![] bcast_S_S32768 (constantI S_
    32 639#32)))

/-- The slot of a kept token; of another, the number of slots. -/
def targets (b : Arr F S32768 .i1) (s : Arr F S32768 .i32) : Arr F S32768 .i32 :=
  select b s (broadcastInDim S32768 ![] bcast_S_S32768 (id (constantI S_ 32 40960#32)))

/-- The targets as one column of indices. -/
def targetCol (d : Arr F S32768 .i32) : Arr F S32768x1 .i32 :=
  broadcastInDim S32768x1 ![0] bcast_S32768_S32768x1_0 (select (cmpi .slt d (broadcastInDim S32768 ![] bcast_S_S32768 (constantI S_ 32 0#32))) (addi
    d (broadcastInDim S32768 ![] bcast_S_S32768 (constantI S_ 32 40960#32))) d)

/-- The tokens scattered to their targets in an array of zeros. -/
def buffer (i : Arr F S32768x1 .i32) (x : Arr F S32768x768 .f32) : Arr F S40960x768 .f32 :=
  Host.scatter scatter_S40960x768_S32768x1_S32768x768_1_0_0_1 (fun _ b => b) (broadcastInDim S40960x768 ![] bcast_S_S40960x768 (constant S_ .f32
    0x00000000#32)) i x

/-- The first layer of the slots' rows. -/
def pre (u : Arr F S40960x768 .f32) (w1 : Arr F S768x3072 .f32) (b1 : Arr F S3072 .f32) : Arr F S40960x3072 .f32 :=
  addf (Host.dotGeneral dot_S40960x768_S768x3072_S40960x3072_1_0_0_1_n_n none u w1) (broadcastInDim S40960x3072 ![0, 1] bcast_S1x3072_S40960x3072_0_1
    (broadcastInDim S1x3072 ![1] bcast_S3072_S1x3072_1 b1))

/-- Half the first layer. -/
def halved (h : Arr F S40960x3072 .f32) : Arr F S40960x3072 .f32 :=
  mulf (broadcastInDim S40960x3072 ![] bcast_S_S40960x3072 (constant S_ .f32 0x3F000000#32)) h

/-- The first layer's opposite. -/
def negated (h : Arr F S40960x3072 .f32) : Arr F S40960x3072 .f32 :=
  Host.negf h

/-- The linear unit's values: half the first layer times the complementary error function. -/
def act (h : Arr F S40960x3072 .f32) (g : Arr F S40960x3072 .f32) : Arr F S40960x3072 .f32 :=
  mulf h (Host.erfc (mulf g (broadcastInDim S40960x3072 ![] bcast_S_S40960x3072 (constant S_ .f32 0x3F3504F3#32))))

/-- The second layer of the slots' rows. -/
def results (a : Arr F S40960x3072 .f32) (w2 : Arr F S3072x768 .f32) (b2 : Arr F S768 .f32) : Arr F S40960x768 .f32 :=
  addf (Host.dotGeneral dot_S40960x3072_S3072x768_S40960x768_1_0_0_1_n_n none a w2) (broadcastInDim S40960x768 ![0, 1] bcast_S1x768_S40960x768_0_1
    (broadcastInDim S1x768 ![1] bcast_S768_S1x768_1 b2))

/-- The slots as one column of indices. -/
def slotCol (s : Arr F S32768 .i32) : Arr F S32768x1 .i32 :=
  broadcastInDim S32768x1 ![0] bcast_S32768_S32768x1_0 (select (cmpi .slt s (broadcastInDim S32768 ![] bcast_S_S32768 (constantI S_ 32 0#32))) (addi
    s (broadcastInDim S32768 ![] bcast_S_S32768 (constantI S_ 32 40960#32))) s)

/-- The network's rows taken back at each token's slot. -/
def taken (i : Arr F S32768x1 .i32) (y : Arr F S40960x768 .f32) : Arr F S32768x768 .f32 :=
  select (broadcastInDim S32768x768 ![0] bcast_S32768_S32768x768_0 (Host.reduce IntOp.andi (andi (cmpi .sge i (broadcastInDim S32768x1 ![]
    bcast_S_S32768x1 (constantI S_ 32 0#32))) (cmpi .sle i (broadcastInDim S32768x1 ![0, 1] bcast_S1x1_S32768x1_0_1 (broadcastInDim S1x1 ![1]
    bcast_S1_S1x1_1 (constantI S1 32 40959#32))))) (constantI S_ 1 1#1) reducesTo_S32768x1_S32768_d1 h_S_)) (Host.gather
    gather_S40960x768_S32768x1_S32768x768_1_0_n_n_0_1_1768 y i) (broadcastInDim S32768x768 ![] bcast_S_S32768x768 (constant S_ .f32 0x7FC00000#32))

/-- The row taken back for a kept token, its own row for another. -/
def rows (b : Arr F S32768 .i1) (z : Arr F S32768x768 .f32) (x : Arr F S32768x768 .f32) : Arr F S32768x768 .f32 :=
  select (broadcastInDim S32768x768 ![0, 1] bcast_S32768x1_S32768x768_0_1 (broadcastInDim S32768x1 ![0] bcast_S32768_S32768x1_0 b)) z x

/-- The greatest probability for a kept token, one for another. -/
def weights (b : Arr F S32768 .i1) (p : Arr F S32768 .f32) : Arr F S32768 .f32 :=
  select b p (broadcastInDim S32768 ![] bcast_S_S32768 (constant S_ .f32 0x3F800000#32))

/-- The rows times the weights. -/
def output (z : Arr F S32768x768 .f32) (g : Arr F S32768 .f32) : Arr F S32768x768 .f32 :=
  mulf z (broadcastInDim S32768x768 ![0, 1] bcast_S32768x1_S32768x768_0_1 (broadcastInDim S32768x1 ![0] bcast_S32768_S32768x1_0 g))

/-- The probabilities, of the arguments. -/
def probsOf (x : Arr F S32768x768 .f32) (ws : Arr F S768x64 .f32) (bs : Arr F S64 .f32) : Arr F S32768x64 .f32 := probs (expo (logits x ws bs))

/-- The experts, of the arguments. -/
def routesOf (x : Arr F S32768x768 .f32) (ws : Arr F S768x64 .f32) (bs : Arr F S64 .f32) : Arr F S32768 .i32 := routes (probsOf x ws bs)

/-- The ranks, of the experts. -/
def ranksOf (r : Arr F S32768 .i32) : Arr F S32768x64 .i32 := ranks (counts (oneHot r))

/-- The tokens' ranks at their experts, of the experts. -/
def positionsOf (r : Arr F S32768 .i32) : Arr F S32768 .i32 := positions (picked (wrapped (column r)) (ranksOf r))

/-- The slots, of the experts. -/
def slotsOf (r : Arr F S32768 .i32) : Arr F S32768 .i32 := slots r (positionsOf r)

/-- Which tokens are kept, of the experts. -/
def keptOf (r : Arr F S32768 .i32) : Arr F S32768 .i1 := kept (positionsOf r)

/-- The slots' rows, of the tokens and their experts. -/
def bufferOf (x : Arr F S32768x768 .f32) (r : Arr F S32768 .i32) : Arr F S40960x768 .f32 :=
  buffer (targetCol (targets (keptOf r) (slotsOf r))) x

/-- The network's rows, of the slots' rows. -/
def resultsOf (u : Arr F S40960x768 .f32) (w1 : Arr F S768x3072 .f32) (b1 : Arr F S3072 .f32) (w2 : Arr F S3072x768 .f32) (b2 : Arr F S768 .f32) :
    Arr F S40960x768 .f32 :=
  results (act (halved (pre u w1 b1)) (negated (pre u w1 b1))) w2 b2

/-- The last stages: the network's rows taken back, chosen and weighed. -/
def finish (x : Arr F S32768x768 .f32) (p : Arr F S32768 .f32) (b : Arr F S32768 .i1) (s : Arr F S32768 .i32) (y : Arr F S40960x768 .f32) :
    Arr F S32768x768 .f32 :=
  output (rows b (taken (slotCol s) y) x) (weights b p)

/-- The reference's result, of its seven arguments. -/
def resultOf (x : Arr F S32768x768 .f32) (ws : Arr F S768x64 .f32) (bs : Arr F S64 .f32)
    (w1 : Arr F S768x3072 .f32) (b1 : Arr F S3072 .f32) (w2 : Arr F S3072x768 .f32) (b2 : Arr F S768 .f32) : Arr F S32768x768 .f32 :=
  finish x (best (probsOf x ws bs)) (keptOf (routesOf x ws bs)) (slotsOf (routesOf x ws bs))
    (resultsOf (bufferOf x (routesOf x ws bs)) w1 b1 w2 b2)

end Cert.Moe.Ref

end
-- ==== Proof.RefOps.lean ====
/- The reference as a list of its array operations, in ten stretches, and its run: what every array holds at the end. -/
module

public import proofs.«01_k».proof.Proof.RefStages

@[expose] public section

set_option Elab.async false

noncomputable section

namespace Cert.Moe.Ref

open Cert.ReferenceIdeal Cert.ReferenceIdeal.Gen Idealize.ShloMosaic Idealize.ShloMosaic.TcCoe Idealize.SL.Sem Idealize.ShloMosaic.StableHlo

variable {F : FTy → Type} [FloatOps F]

/-- The stretch `Router`: 20 operations. -/
abbrev opsRouter : List (HloOp τ sig (Elt F)) :=
  [ binary main_arg0 main_arg1 main_v0 ((fun l r => Host.dotGeneral dot_S32768x768_S768x64_S32768x64_1_0_0_1_n_n none l r) : Arr F S32768x768 .f32 → Arr F S768x64 .f32 → Arr
      F S32768x64 .f32),
    unary main_arg2 main_v1 ((broadcastInDim S1x64 ![1] bcast_S64_S1x64_1) : Arr F S64 .f32 → Arr F S1x64 .f32),
    unary main_v1 main_v2 ((broadcastInDim S32768x64 ![0, 1] bcast_S1x64_S32768x64_0_1) : Arr F S1x64 .f32 → Arr F S32768x64 .f32),
    binary main_v0 main_v2 main_v3 (addf : Arr F S32768x64 .f32 → Arr F S32768x64 .f32 → Arr F S32768x64 .f32),
    nullary main_cst (constant S_ .f32 0xFF800000#32),
    binary main_v3 main_cst main_v4 ((fun x v => Host.reduce FloatOps.maximumf x v reducesTo_S32768x64_S32768_d1 h_S_) : Arr F S32768x64 .f32 → Arr F S_ .f32 → Arr F
      S32768 .f32),
    nullary main_cst_0 (constant S_ .f32 0xFF800000#32),
    unary main_cst_0 main_v5 ((broadcastInDim S32768 ![] bcast_S_S32768) : Arr F S_ .f32 → Arr F S32768 .f32),
    binary main_v5 main_v4 main_v6 (maximumf : Arr F S32768 .f32 → Arr F S32768 .f32 → Arr F S32768 .f32),
    unary main_v6 main_v7 ((broadcastInDim S32768x1 ![0] bcast_S32768_S32768x1_0) : Arr F S32768 .f32 → Arr F S32768x1 .f32),
    unary main_v7 main_v8 ((broadcastInDim S32768x64 ![0, 1] bcast_S32768x1_S32768x64_0_1) : Arr F S32768x1 .f32 → Arr F S32768x64 .f32),
    binary main_v3 main_v8 main_v9 (subf : Arr F S32768x64 .f32 → Arr F S32768x64 .f32 → Arr F S32768x64 .f32),
    unary main_v9 main_v10 (Host.exp : Arr F S32768x64 .f32 → Arr F S32768x64 .f32),
    nullary main_cst_1 (constant S_ .f32 0x00000000#32),
    binary main_v10 main_cst_1 main_v11 ((fun x v => Host.reduceAdd x v reducesTo_S32768x64_S32768_d1 h_S_) : Arr F S32768x64 .f32 → Arr F S_ .f32 → Arr F S32768 .f32),
    unary main_v11 main_v12 ((broadcastInDim S32768x1 ![0] bcast_S32768_S32768x1_0) : Arr F S32768 .f32 → Arr F S32768x1 .f32),
    unary main_v12 main_v13 ((broadcastInDim S32768x64 ![0, 1] bcast_S32768x1_S32768x64_0_1) : Arr F S32768x1 .f32 → Arr F S32768x64 .f32),
    binary main_v10 main_v13 main_v14 (Host.divf : Arr F S32768x64 .f32 → Arr F S32768x64 .f32 → Arr F S32768x64 .f32),
    nullary main_cst_2 (constant S_ .f32 0xFF800000#32),
    binary main_v14 main_cst_2 main_v15 ((fun x v => Host.reduce FloatOps.maximumf x v reducesTo_S32768x64_S32768_d1 h_S_) : Arr F S32768x64 .f32 → Arr F S_ .f32 → Arr F
      S32768 .f32) ]

/-- The stretch `Argmax`: 5 operations. -/
abbrev opsArgmax : List (HloOp τ sig (Elt F)) :=
  [ TRef.nullary (TRef.of (T := ⟨S32768x64, .i32⟩) main_call0_v0) (iotaInDim S32768x64 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S32768x64, .f32⟩) main_v14) (TRef.of (T := ⟨S32768x64, .i32⟩) main_call0_v0) (TRef.of (T := ⟨S_, .f32⟩) main_call0_cst) (TRef.of (T
      := ⟨S_, .i32⟩) main_call0_c) (TRef.of (T := ⟨S32768, .f32⟩) main_call0_v1_0) (fun x y u v j => (Host.argReduce reducer_argmax_f32_i32 x y u v
      reducesTo_S32768x64_S32768_d1 h_S_ j).1),
    TRef.quaternary (TRef.of (T := ⟨S32768x64, .f32⟩) main_v14) (TRef.of (T := ⟨S32768x64, .i32⟩) main_call0_v0) (TRef.of (T := ⟨S_, .f32⟩) main_call0_cst) (TRef.of (T
      := ⟨S_, .i32⟩) main_call0_c) (TRef.of (T := ⟨S32768, .i32⟩) main_v16) (fun x y u v j => (Host.argReduce reducer_argmax_f32_i32 x y u v
      reducesTo_S32768x64_S32768_d1 h_S_ j).2) ]

/-- The stretch `Ranks`: 13 operations. -/
abbrev opsRanks : List (HloOp τ sig (Elt F)) :=
  [ TRef.unary (TRef.of (T := ⟨S32768, .i32⟩) main_v16) (TRef.of (T := ⟨S32768x1, .i32⟩) main_call1_v0) (broadcastInDim S32768x1 ![0] bcast_S32768_S32768x1_0),
    TRef.nullary (TRef.of (T := ⟨S1x64, .i32⟩) main_call1_v1) (iotaInDim S1x64 32 1),
    TRef.unary (TRef.of (T := ⟨S32768x1, .i32⟩) main_call1_v0) (TRef.of (T := ⟨S32768x64, .i32⟩) main_call1_v2) (broadcastInDim S32768x64 ![0, 1]
      bcast_S32768x1_S32768x64_0_1),
    TRef.unary (TRef.of (T := ⟨S1x64, .i32⟩) main_call1_v1) (TRef.of (T := ⟨S32768x64, .i32⟩) main_call1_v3) (broadcastInDim S32768x64 ![0, 1] bcast_S1x64_S32768x64_0_1),
    TRef.binary (TRef.of (T := ⟨S32768x64, .i32⟩) main_call1_v2) (TRef.of (T := ⟨S32768x64, .i32⟩) main_call1_v3) (TRef.of (T := ⟨S32768x64, .i1⟩) main_call1_v4) (cmpi
      .eq),
    TRef.unary (TRef.of (T := ⟨S32768x64, .i1⟩) main_call1_v4) (TRef.of (T := ⟨S32768x64, .i32⟩) main_v17) (extui 32 · natLt_1_32),
    TRef.nullary (TRef.of (T := ⟨S_, .i32⟩) main_call2_call0_c) (constantI S_ 32 0#32),
    TRef.unary (TRef.of (T := ⟨S_, .i32⟩) main_call2_call0_c) (TRef.of (T := ⟨S_, .i32⟩) main_call2_call0_v0) (broadcastInDim S_ ![] bcast_S_S_),
    TRef.binary (TRef.of (T := ⟨S32768x64, .i32⟩) main_v17) (TRef.of (T := ⟨S_, .i32⟩) main_call2_call0_v0) (TRef.of (T := ⟨S32768x64, .i32⟩) main_v18) (fun x v =>
      Host.reduceWindow IntOp.addi ![32768, 1] ![1, 1] ![32767, 0] ![0, 0] x v reduceWindows_S32768x64_S32768x64_w32768s1p32767_0_w1s1p0_0 h_S_),
    nullary main_c (constantI S_ 32 1#32),
    unary main_c main_v19 ((broadcastInDim S32768x64 ![] bcast_S_S32768x64) : Arr F S_ .i32 → Arr F S32768x64 .i32),
    binary main_v18 main_v19 main_v20 (subi : Arr F S32768x64 .i32 → Arr F S32768x64 .i32 → Arr F S32768x64 .i32),
    unary main_v16 main_v21 ((broadcastInDim S32768x1 ![0] bcast_S32768_S32768x1_0) : Arr F S32768 .i32 → Arr F S32768x1 .i32) ]

/-- The stretch `Pick`: 22 operations. -/
abbrev opsPick : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S32768x1, .i32⟩) main_call3_v0) (broadcastInDim S32768x1 ![] bcast_S_S32768x1),
    TRef.binary (TRef.of (T := ⟨S32768x1, .i32⟩) main_v21) (TRef.of (T := ⟨S32768x1, .i32⟩) main_call3_v0) (TRef.of (T := ⟨S32768x1, .i1⟩) main_call3_v1) (cmpi .slt),
    TRef.nullary (TRef.of (T := ⟨S_, .i32⟩) main_call3_c_0) (constantI S_ 32 64#32),
    TRef.unary (TRef.of (T := ⟨S_, .i32⟩) main_call3_c_0) (TRef.of (T := ⟨S32768x1, .i32⟩) main_call3_v2) (broadcastInDim S32768x1 ![] bcast_S_S32768x1),
    TRef.binary (TRef.of (T := ⟨S32768x1, .i32⟩) main_v21) (TRef.of (T := ⟨S32768x1, .i32⟩) main_call3_v2) (TRef.of (T := ⟨S32768x1, .i32⟩) main_call3_v3) addi,
    TRef.ternary (TRef.of (T := ⟨S32768x1, .i1⟩) main_call3_v1) (TRef.of (T := ⟨S32768x1, .i32⟩) main_call3_v3) (TRef.of (T := ⟨S32768x1, .i32⟩) main_v21) (TRef.of (T :=
      ⟨S32768x1, .i32⟩) main_call3_v4) select,
    TRef.reshape (TRef.of (T := ⟨S32768x1, .i32⟩) main_call3_v4) (TRef.of (T := ⟨S32768x1x1, .i32⟩) main_call3_v5) (rfl : (.i32 : EltTy) = .i32)
      shapeCasts_S32768x1_S32768x1x1,
    TRef.nullary (TRef.of (T := ⟨S1, .i32⟩) main_call3_c_1) (constantI S1 32 63#32),
    TRef.nullary (TRef.of (T := ⟨S_, .i32⟩) main_call3_c_2) (constantI S_ 32 0#32),
    TRef.unary (TRef.of (T := ⟨S_, .i32⟩) main_call3_c_2) (TRef.of (T := ⟨S32768x1x1, .i32⟩) main_call3_v6) (broadcastInDim S32768x1x1 ![] bcast_S_S32768x1x1),
    TRef.binary (TRef.of (T := ⟨S32768x1x1, .i32⟩) main_call3_v5) (TRef.of (T := ⟨S32768x1x1, .i32⟩) main_call3_v6) (TRef.of (T := ⟨S32768x1x1, .i1⟩) main_call3_v7)
      (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S32768x1x1, .i32⟩) main_call3_v9) (broadcastInDim S32768x1x1 ![0, 1, 2]
      bcast_S1x1x1_S32768x1x1_0_1_2),
    TRef.binary (TRef.of (T := ⟨S32768x1x1, .i32⟩) main_call3_v5) (TRef.of (T := ⟨S32768x1x1, .i32⟩) main_call3_v9) (TRef.of (T := ⟨S32768x1x1, .i1⟩) main_call3_v10)
      (cmpi .sle),
    TRef.binary (TRef.of (T := ⟨S32768x1x1, .i1⟩) main_call3_v7) (TRef.of (T := ⟨S32768x1x1, .i1⟩) main_call3_v10) (TRef.of (T := ⟨S32768x1x1, .i1⟩) main_call3_v11) andi,
    TRef.nullary (TRef.of (T := ⟨S_, .i1⟩) main_call3_c_3) (constantI S_ 1 1#1),
    TRef.binary (TRef.of (T := ⟨S32768x1x1, .i1⟩) main_call3_v11) (TRef.of (T := ⟨S_, .i1⟩) main_call3_c_3) (TRef.of (T := ⟨S32768x1, .i1⟩) main_call3_v12) (fun x v =>
      Host.reduce IntOp.andi x v reducesTo_S32768x1x1_S32768x1_d2 h_S_),
    TRef.binary (TRef.of (T := ⟨S32768x64, .i32⟩) main_v20) (TRef.of (T := ⟨S32768x1x1, .i32⟩) main_call3_v5) (TRef.of (T := ⟨S32768x1, .i32⟩) main_call3_v13) (fun x i
      => Host.gather gather_S32768x64_S32768x1x1_S32768x1_n_1_0_0_1_2_11 x i),
    TRef.nullary (TRef.of (T := ⟨S_, .i32⟩) main_call3_c_4) (constantI S_ 32 2147483648#32),
    TRef.unary (TRef.of (T := ⟨S_, .i32⟩) main_call3_c_4) (TRef.of (T := ⟨S32768x1, .i32⟩) main_call3_v14) (broadcastInDim S32768x1 ![] bcast_S_S32768x1),
    TRef.ternary (TRef.of (T := ⟨S32768x1, .i1⟩) main_call3_v12) (TRef.of (T := ⟨S32768x1, .i32⟩) main_call3_v13) (TRef.of (T := ⟨S32768x1, .i32⟩) main_call3_v14)
      (TRef.of (T := ⟨S32768x1, .i32⟩) main_v22) select ]

/-- The stretch `Slots`: 15 operations. -/
abbrev opsSlots : List (HloOp τ sig (Elt F)) :=
  [ reshape main_v22 main_v23 (rfl : (.i32 : EltTy) = .i32) shapeCasts_S32768x1_S32768,
    nullary main_c_3 (constantI S_ 32 640#32),
    unary main_c_3 main_v24 ((broadcastInDim S32768 ![] bcast_S_S32768) : Arr F S_ .i32 → Arr F S32768 .i32),
    binary main_v23 main_v24 main_v25 ((cmpi .slt) : Arr F S32768 .i32 → Arr F S32768 .i32 → Arr F S32768 .i1),
    nullary main_c_4 (constantI S_ 32 640#32),
    unary main_c_4 main_v26 ((broadcastInDim S32768 ![] bcast_S_S32768) : Arr F S_ .i32 → Arr F S32768 .i32),
    binary main_v16 main_v26 main_v27 (muli : Arr F S32768 .i32 → Arr F S32768 .i32 → Arr F S32768 .i32),
    nullary main_c_5 (constantI S_ 32 639#32),
    unary main_c_5 main_v28 ((broadcastInDim S32768 ![] bcast_S_S32768) : Arr F S_ .i32 → Arr F S32768 .i32),
    binary main_v23 main_v28 main_v29 (minsi : Arr F S32768 .i32 → Arr F S32768 .i32 → Arr F S32768 .i32),
    binary main_v27 main_v29 main_v30 (addi : Arr F S32768 .i32 → Arr F S32768 .i32 → Arr F S32768 .i32),
    nullary main_c_6 (constantI S_ 32 40960#32),
    TRef.unary (TRef.of (T := ⟨S_, .i32⟩) main_c_6) (TRef.of (T := ⟨S_, .i32⟩) main_call4_v0) id,
    TRef.unary (TRef.of (T := ⟨S_, .i32⟩) main_call4_v0) (TRef.of (T := ⟨S32768, .i32⟩) main_call4_v1) (broadcastInDim S32768 ![] bcast_S_S32768),
    TRef.ternary (TRef.of (T := ⟨S32768, .i1⟩) main_v25) (TRef.of (T := ⟨S32768, .i32⟩) main_v30) (TRef.of (T := ⟨S32768, .i32⟩) main_call4_v1) (TRef.of (T := ⟨S32768,
      .i32⟩) main_v31) select ]

/-- The stretch `Scatter`: 11 operations. -/
abbrev opsScatter : List (HloOp τ sig (Elt F)) :=
  [ nullary main_cst_7 (constant S_ .f32 0x00000000#32),
    unary main_cst_7 main_v32 ((broadcastInDim S40960x768 ![] bcast_S_S40960x768) : Arr F S_ .f32 → Arr F S40960x768 .f32),
    nullary main_c_8 (constantI S_ 32 0#32),
    unary main_c_8 main_v33 ((broadcastInDim S32768 ![] bcast_S_S32768) : Arr F S_ .i32 → Arr F S32768 .i32),
    binary main_v31 main_v33 main_v34 ((cmpi .slt) : Arr F S32768 .i32 → Arr F S32768 .i32 → Arr F S32768 .i1),
    nullary main_c_9 (constantI S_ 32 40960#32),
    unary main_c_9 main_v35 ((broadcastInDim S32768 ![] bcast_S_S32768) : Arr F S_ .i32 → Arr F S32768 .i32),
    binary main_v31 main_v35 main_v36 (addi : Arr F S32768 .i32 → Arr F S32768 .i32 → Arr F S32768 .i32),
    ternary main_v34 main_v36 main_v31 main_v37 (select : Arr F S32768 .i1 → Arr F S32768 .i32 → Arr F S32768 .i32 → Arr F S32768 .i32),
    unary main_v37 main_v38 ((broadcastInDim S32768x1 ![0] bcast_S32768_S32768x1_0) : Arr F S32768 .i32 → Arr F S32768x1 .i32),
    ternary main_v32 main_v38 main_arg0 main_v39 ((fun x i u => Host.scatter scatter_S40960x768_S32768x1_S32768x768_1_0_0_1 (fun _ b => b) x i u) : Arr F S40960x768 .f32
      → Arr F S32768x1 .i32 → Arr F S32768x768 .f32 → Arr F S40960x768 .f32) ]

/-- The stretch `LayerOne`: 8 operations. -/
abbrev opsLayerOne : List (HloOp τ sig (Elt F)) :=
  [ binary main_v39 main_arg3 main_v40 ((fun l r => Host.dotGeneral dot_S40960x768_S768x3072_S40960x3072_1_0_0_1_n_n none l r) : Arr F S40960x768 .f32 → Arr F S768x3072 .f32
      → Arr F S40960x3072 .f32),
    unary main_arg4 main_v41 ((broadcastInDim S1x3072 ![1] bcast_S3072_S1x3072_1) : Arr F S3072 .f32 → Arr F S1x3072 .f32),
    unary main_v41 main_v42 ((broadcastInDim S40960x3072 ![0, 1] bcast_S1x3072_S40960x3072_0_1) : Arr F S1x3072 .f32 → Arr F S40960x3072 .f32),
    binary main_v40 main_v42 main_v43 (addf : Arr F S40960x3072 .f32 → Arr F S40960x3072 .f32 → Arr F S40960x3072 .f32),
    nullary main_cst_10 (constant S_ .f32 0x3F000000#32),
    unary main_cst_10 main_v44 ((broadcastInDim S40960x3072 ![] bcast_S_S40960x3072) : Arr F S_ .f32 → Arr F S40960x3072 .f32),
    binary main_v44 main_v43 main_v45 (mulf : Arr F S40960x3072 .f32 → Arr F S40960x3072 .f32 → Arr F S40960x3072 .f32),
    unary main_v43 main_v46 (Host.negf : Arr F S40960x3072 .f32 → Arr F S40960x3072 .f32) ]

/-- The stretch `LayerTwo`: 9 operations. -/
abbrev opsLayerTwo : List (HloOp τ sig (Elt F)) :=
  [ nullary main_cst_11 (constant S_ .f32 0x3F3504F3#32),
    unary main_cst_11 main_v47 ((broadcastInDim S40960x3072 ![] bcast_S_S40960x3072) : Arr F S_ .f32 → Arr F S40960x3072 .f32),
    binary main_v46 main_v47 main_v48 (mulf : Arr F S40960x3072 .f32 → Arr F S40960x3072 .f32 → Arr F S40960x3072 .f32),
    unary main_v48 main_v49 (Host.erfc : Arr F S40960x3072 .f32 → Arr F S40960x3072 .f32),
    binary main_v45 main_v49 main_v50 (mulf : Arr F S40960x3072 .f32 → Arr F S40960x3072 .f32 → Arr F S40960x3072 .f32),
    binary main_v50 main_arg5 main_v51 ((fun l r => Host.dotGeneral dot_S40960x3072_S3072x768_S40960x768_1_0_0_1_n_n none l r) : Arr F S40960x3072 .f32 → Arr F S3072x768
      .f32 → Arr F S40960x768 .f32),
    unary main_arg6 main_v52 ((broadcastInDim S1x768 ![1] bcast_S768_S1x768_1) : Arr F S768 .f32 → Arr F S1x768 .f32),
    unary main_v52 main_v53 ((broadcastInDim S40960x768 ![0, 1] bcast_S1x768_S40960x768_0_1) : Arr F S1x768 .f32 → Arr F S40960x768 .f32),
    binary main_v51 main_v53 main_v54 (addf : Arr F S40960x768 .f32 → Arr F S40960x768 .f32 → Arr F S40960x768 .f32) ]

/-- The stretch `Take`: 23 operations. -/
abbrev opsTake : List (HloOp τ sig (Elt F)) :=
  [ TRef.nullary (TRef.of (T := ⟨S_, .i32⟩) main_call5_c) (constantI S_ 32 0#32),
    TRef.unary (TRef.of (T := ⟨S_, .i32⟩) main_call5_c) (TRef.of (T := ⟨S32768, .i32⟩) main_call5_v0) (broadcastInDim S32768 ![] bcast_S_S32768),
    TRef.binary (TRef.of (T := ⟨S32768, .i32⟩) main_v30) (TRef.of (T := ⟨S32768, .i32⟩) main_call5_v0) (TRef.of (T := ⟨S32768, .i1⟩) main_call5_v1) (cmpi .slt),
    TRef.nullary (TRef.of (T := ⟨S_, .i32⟩) main_call5_c_0) (constantI S_ 32 40960#32),
    TRef.unary (TRef.of (T := ⟨S_, .i32⟩) main_call5_c_0) (TRef.of (T := ⟨S32768, .i32⟩) main_call5_v2) (broadcastInDim S32768 ![] bcast_S_S32768),
    TRef.binary (TRef.of (T := ⟨S32768, .i32⟩) main_v30) (TRef.of (T := ⟨S32768, .i32⟩) main_call5_v2) (TRef.of (T := ⟨S32768, .i32⟩) main_call5_v3) addi,
    TRef.ternary (TRef.of (T := ⟨S32768, .i1⟩) main_call5_v1) (TRef.of (T := ⟨S32768, .i32⟩) main_call5_v3) (TRef.of (T := ⟨S32768, .i32⟩) main_v30) (TRef.of (T :=
      ⟨S32768, .i32⟩) main_call5_v4) select,
    TRef.unary (TRef.of (T := ⟨S32768, .i32⟩) main_call5_v4) (TRef.of (T := ⟨S32768x1, .i32⟩) main_call5_v5) (broadcastInDim S32768x1 ![0] bcast_S32768_S32768x1_0),
    TRef.nullary (TRef.of (T := ⟨S1, .i32⟩) main_call5_c_1) (constantI S1 32 40959#32),
    TRef.nullary (TRef.of (T := ⟨S_, .i32⟩) main_call5_c_2) (constantI S_ 32 0#32),
    TRef.unary (TRef.of (T := ⟨S_, .i32⟩) main_call5_c_2) (TRef.of (T := ⟨S32768x1, .i32⟩) main_call5_v6) (broadcastInDim S32768x1 ![] bcast_S_S32768x1),
    TRef.binary (TRef.of (T := ⟨S32768x1, .i32⟩) main_call5_v5) (TRef.of (T := ⟨S32768x1, .i32⟩) main_call5_v6) (TRef.of (T := ⟨S32768x1, .i1⟩) main_call5_v7) (cmpi
      .sge),
    TRef.unary (TRef.of (T := ⟨S1, .i32⟩) main_call5_c_1) (TRef.of (T := ⟨S1x1, .i32⟩) main_call5_v8) (broadcastInDim S1x1 ![1] bcast_S1_S1x1_1),
    TRef.unary (TRef.of (T := ⟨S1x1, .i32⟩) main_call5_v8) (TRef.of (T := ⟨S32768x1, .i32⟩) main_call5_v9) (broadcastInDim S32768x1 ![0, 1] bcast_S1x1_S32768x1_0_1),
    TRef.binary (TRef.of (T := ⟨S32768x1, .i32⟩) main_call5_v5) (TRef.of (T := ⟨S32768x1, .i32⟩) main_call5_v9) (TRef.of (T := ⟨S32768x1, .i1⟩) main_call5_v10) (cmpi
      .sle),
    TRef.binary (TRef.of (T := ⟨S32768x1, .i1⟩) main_call5_v7) (TRef.of (T := ⟨S32768x1, .i1⟩) main_call5_v10) (TRef.of (T := ⟨S32768x1, .i1⟩) main_call5_v11) andi,
    TRef.nullary (TRef.of (T := ⟨S_, .i1⟩) main_call5_c_3) (constantI S_ 1 1#1),
    TRef.binary (TRef.of (T := ⟨S32768x1, .i1⟩) main_call5_v11) (TRef.of (T := ⟨S_, .i1⟩) main_call5_c_3) (TRef.of (T := ⟨S32768, .i1⟩) main_call5_v12) (fun x v =>
      Host.reduce IntOp.andi x v reducesTo_S32768x1_S32768_d1 h_S_),
    TRef.binary (TRef.of (T := ⟨S40960x768, .f32⟩) main_v54) (TRef.of (T := ⟨S32768x1, .i32⟩) main_call5_v5) (TRef.of (T := ⟨S32768x768, .f32⟩) main_call5_v13) (fun x i
      => Host.gather gather_S40960x768_S32768x1_S32768x768_1_0_n_n_0_1_1768 x i),
    TRef.unary (TRef.of (T := ⟨S32768, .i1⟩) main_call5_v12) (TRef.of (T := ⟨S32768x768, .i1⟩) main_call5_v14) (broadcastInDim S32768x768 ![0] bcast_S32768_S32768x768_0),
    TRef.nullary (TRef.of (T := ⟨S_, .f32⟩) main_call5_cst) (constant S_ .f32 0x7FC00000#32),
    TRef.unary (TRef.of (T := ⟨S_, .f32⟩) main_call5_cst) (TRef.of (T := ⟨S32768x768, .f32⟩) main_call5_v15) (broadcastInDim S32768x768 ![] bcast_S_S32768x768),
    TRef.ternary (TRef.of (T := ⟨S32768x768, .i1⟩) main_call5_v14) (TRef.of (T := ⟨S32768x768, .f32⟩) main_call5_v13) (TRef.of (T := ⟨S32768x768, .f32⟩) main_call5_v15)
      (TRef.of (T := ⟨S32768x768, .f32⟩) main_v55) select ]

/-- The stretch `Finish`: 9 operations. -/
abbrev opsFinish : List (HloOp τ sig (Elt F)) :=
  [ unary main_v25 main_v56 ((broadcastInDim S32768x1 ![0] bcast_S32768_S32768x1_0) : Arr F S32768 .i1 → Arr F S32768x1 .i1),
    TRef.unary (TRef.of (T := ⟨S32768x1, .i1⟩) main_v56) (TRef.of (T := ⟨S32768x768, .i1⟩) main_call6_v0) (broadcastInDim S32768x768 ![0, 1]
      bcast_S32768x1_S32768x768_0_1),
    TRef.ternary (TRef.of (T := ⟨S32768x768, .i1⟩) main_call6_v0) (TRef.of (T := ⟨S32768x768, .f32⟩) main_v55) (TRef.of (T := ⟨S32768x768, .f32⟩) main_arg0) (TRef.of (T
      := ⟨S32768x768, .f32⟩) main_v57) select,
    nullary main_cst_12 (constant S_ .f32 0x3F800000#32),
    TRef.unary (TRef.of (T := ⟨S_, .f32⟩) main_cst_12) (TRef.of (T := ⟨S32768, .f32⟩) main_call7_v0) (broadcastInDim S32768 ![] bcast_S_S32768),
    TRef.ternary (TRef.of (T := ⟨S32768, .i1⟩) main_v25) (TRef.of (T := ⟨S32768, .f32⟩) main_v15) (TRef.of (T := ⟨S32768, .f32⟩) main_call7_v0) (TRef.of (T := ⟨S32768,
      .f32⟩) main_v58) select,
    unary main_v58 main_v59 ((broadcastInDim S32768x1 ![0] bcast_S32768_S32768x1_0) : Arr F S32768 .f32 → Arr F S32768x1 .f32),
    unary main_v59 main_v60 ((broadcastInDim S32768x768 ![0, 1] bcast_S32768x1_S32768x768_0_1) : Arr F S32768x1 .f32 → Arr F S32768x768 .f32),
    binary main_v57 main_v60 main_v61 (mulf : Arr F S32768x768 .f32 → Arr F S32768x768 .f32 → Arr F S32768x768 .f32) ]

/-- The operations of the first part. -/
abbrev opsPart0 : List (HloOp τ sig (Elt F)) :=
  opsRouter ++ (opsArgmax ++ (opsRanks ++ (opsPick ++ (opsSlots ++ (opsScatter ++ (opsLayerOne))))))

/-- The operations of the second part. -/
abbrev opsPart1 : List (HloOp τ sig (Elt F)) :=
  opsLayerTwo ++ (opsTake ++ (opsFinish))

/-- All the operations. -/
abbrev opsAll : List (HloOp τ sig (Elt F)) := opsPart0 ++ opsPart1

set_option maxRecDepth 8192 in
/-- The first part of the reference is its operations in turn. -/
theorem part0_eq (c : Dev nD) : main_part0 (F := F) c = seq opsPart0 := rfl

set_option maxRecDepth 8192 in
/-- The second part of the reference is its operations in turn. -/
theorem part1_eq (c : Dev nD) : main_part1 (F := F) c = seq opsPart1 := rfl

/-- The reference is its operations in turn. -/
theorem main_eq (c : Dev nD) : main (F := F) c = seq opsAll := by
  rw [opsAll, seq_append, ← part0_eq c, ← part1_eq c]
  rfl

/-- No array is scoped. -/
theorem scopedRefs_eq : (Finset.univ.filter fun b : Ref sig .tc => b.isScoped) = ∅ := by decide

/-- No semaphore is scoped. -/
theorem scopedSems_eq : (Finset.univ.filter fun sm : SemLoc sig => sm.isScoped .tc) = ∅ := by decide

set_option maxRecDepth 8192 in
/-- The stretch `Router` touches the core's arrays only. -/
theorem subRouter : (opsRouter : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub .., nullary_bufs_sub ..,
    binary_bufs_sub .., unary_bufs_sub .., unary_bufs_sub .., binary_bufs_sub .., nullary_bufs_sub .., binary_bufs_sub ..⟩

set_option maxRecDepth 8192 in
/-- The stretch `Router` leaves nothing undetermined. -/
theorem freshRouter : (opsRouter : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

set_option maxRecDepth 8192 in
/-- The stretch `Argmax` touches the core's arrays only. -/
theorem subArgmax : (opsArgmax : List (HloOp τ sig (Elt F))).Forall fun op => op.bufs ⊆ tcRefs τ sig :=
  ⟨nullary_bufs_sub .., nullary_bufs_sub .., nullary_bufs_sub .., quaternary_bufs_sub .., quaternary_bufs_sub ..⟩

set_option maxRecDepth 8192 in
/-- The stretch `Argmax` leaves nothing undetermined. -/
theorem freshArgmax : (opsArgmax : List (HloOp τ sig (Elt F))).Forall fun op => op.fresh = ∅ :=
  ⟨rfl, rfl, rfl, rfl, rfl⟩

set_option maxRecDepth 8192 in
/-- The stretch `Ranks` touches the core's arrays only. -/
theorem subRanks : (opsRanks : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub ..,
    unary_bufs_sub .., binary_bufs_sub .., nullary_bufs_sub .., unary_bufs_sub .., binary_bufs_sub .., unary_bufs_sub ..⟩

set_option maxRecDepth 8192 in
/-- The stretch `Ranks` leaves nothing undetermined. -/
theorem freshRanks : (opsRanks : List (HloOp τ sig (Elt F))).Forall fun op => op.fresh = ∅ :=
  ⟨rfl, rfl, rfl, rfl, rfl, rfl, rfl, rfl, rfl, rfl, rfl, rfl, rfl⟩

set_option maxRecDepth 8192 in
/-- The stretch `Pick` touches the core's arrays only. -/
theorem subPick : (opsPick : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
    reshape_bufs_sub .., nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., nullary_bufs_sub .., unary_bufs_sub ..,
    ternary_bufs_sub ..⟩

set_option maxRecDepth 8192 in
/-- The stretch `Pick` leaves nothing undetermined. -/
theorem freshPick : (opsPick : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

set_option maxRecDepth 8192 in
/-- The stretch `Slots` touches the core's arrays only. -/
theorem subSlots : (opsSlots : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub ..,
    nullary_bufs_sub .., unary_bufs_sub .., binary_bufs_sub .., binary_bufs_sub .., nullary_bufs_sub .., unary_bufs_sub .., unary_bufs_sub ..,
    ternary_bufs_sub ..⟩

set_option maxRecDepth 8192 in
/-- The stretch `Slots` leaves nothing undetermined. -/
theorem freshSlots : (opsSlots : List (HloOp τ sig (Elt F))).Forall fun op => op.fresh = ∅ :=
  ⟨rfl, rfl, rfl, rfl, rfl, rfl, rfl, rfl, rfl, rfl, rfl, rfl, rfl, rfl, rfl⟩

set_option maxRecDepth 8192 in
/-- The stretch `Scatter` touches the core's arrays only. -/
theorem subScatter : (opsScatter : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub ..,
    binary_bufs_sub .., ternary_bufs_sub .., unary_bufs_sub .., ternary_bufs_sub ..⟩

set_option maxRecDepth 8192 in
/-- The stretch `Scatter` leaves nothing undetermined. -/
theorem freshScatter : (opsScatter : List (HloOp τ sig (Elt F))).Forall fun op => op.fresh = ∅ :=
  ⟨rfl, rfl, rfl, rfl, rfl, rfl, rfl, rfl, rfl, rfl, rfl⟩

set_option maxRecDepth 8192 in
/-- The stretch `LayerOne` touches the core's arrays only. -/
theorem subLayerOne : (opsLayerOne : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..,
    unary_bufs_sub ..⟩

set_option maxRecDepth 8192 in
/-- The stretch `LayerOne` leaves nothing undetermined. -/
theorem freshLayerOne : (opsLayerOne : List (HloOp τ sig (Elt F))).Forall fun op => op.fresh = ∅ :=
  ⟨rfl, rfl, rfl, rfl, rfl, rfl, rfl, rfl⟩

set_option maxRecDepth 8192 in
/-- The stretch `LayerTwo` touches the core's arrays only. -/
theorem subLayerTwo : (opsLayerTwo : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub ..,
    unary_bufs_sub .., binary_bufs_sub ..⟩

set_option maxRecDepth 8192 in
/-- The stretch `LayerTwo` leaves nothing undetermined. -/
theorem freshLayerTwo : (opsLayerTwo : List (HloOp τ sig (Elt F))).Forall fun op => op.fresh = ∅ :=
  ⟨rfl, rfl, rfl, rfl, rfl, rfl, rfl, rfl, rfl⟩

set_option maxRecDepth 8192 in
/-- The stretch `Take` touches the core's arrays only. -/
theorem subTake : (opsTake : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub .., nullary_bufs_sub ..,
    unary_bufs_sub .., ternary_bufs_sub ..⟩

set_option maxRecDepth 8192 in
/-- The stretch `Take` leaves nothing undetermined. -/
theorem freshTake : (opsTake : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

set_option maxRecDepth 8192 in
/-- The stretch `Finish` touches the core's arrays only. -/
theorem subFinish : (opsFinish : List (HloOp τ sig (Elt F))).Forall fun op => op.bufs ⊆ tcRefs τ sig :=
  ⟨unary_bufs_sub .., unary_bufs_sub .., ternary_bufs_sub .., nullary_bufs_sub .., unary_bufs_sub .., ternary_bufs_sub .., unary_bufs_sub ..,
    unary_bufs_sub .., binary_bufs_sub ..⟩

set_option maxRecDepth 8192 in
/-- The stretch `Finish` leaves nothing undetermined. -/
theorem freshFinish : (opsFinish : List (HloOp τ sig (Elt F))).Forall fun op => op.fresh = ∅ :=
  ⟨rfl, rfl, rfl, rfl, rfl, rfl, rfl, rfl, rfl⟩

/-- The reference touches the core's arrays only. -/
theorem subAll : (opsAll : List (HloOp τ sig (Elt F))).Forall fun op => op.bufs ⊆ tcRefs τ sig :=
  List.forall_iff_forall_mem.mpr fun op h => by
    rw [opsAll, opsPart0, opsPart1] at h
    simp only [List.mem_append, or_assoc] at h
    rcases h with h | h | h | h | h | h | h | h | h | h
    exacts [List.forall_iff_forall_mem.mp subRouter op h, List.forall_iff_forall_mem.mp subArgmax op h, List.forall_iff_forall_mem.mp subRanks op h,
      List.forall_iff_forall_mem.mp subPick op h, List.forall_iff_forall_mem.mp subSlots op h, List.forall_iff_forall_mem.mp subScatter op h,
      List.forall_iff_forall_mem.mp subLayerOne op h, List.forall_iff_forall_mem.mp subLayerTwo op h, List.forall_iff_forall_mem.mp subTake op h,
      List.forall_iff_forall_mem.mp subFinish op h]

/-- The reference leaves nothing undetermined. -/
theorem freshAll : ∀ op ∈ (opsAll : List (HloOp τ sig (Elt F))), op.fresh = ∅ := fun op h => by
  rw [opsAll, opsPart0, opsPart1] at h
  simp only [List.mem_append, or_assoc] at h
  rcases h with h | h | h | h | h | h | h | h | h | h
  exacts [List.forall_iff_forall_mem.mp freshRouter op h, List.forall_iff_forall_mem.mp freshArgmax op h, List.forall_iff_forall_mem.mp freshRanks op h,
    List.forall_iff_forall_mem.mp freshPick op h, List.forall_iff_forall_mem.mp freshSlots op h, List.forall_iff_forall_mem.mp freshScatter op h,
    List.forall_iff_forall_mem.mp freshLayerOne op h, List.forall_iff_forall_mem.mp freshLayerTwo op h, List.forall_iff_forall_mem.mp freshTake op h,
    List.forall_iff_forall_mem.mp freshFinish op h]

/-- Every run of the reference ends with each array at what the operations in turn leave there. -/
theorem run_after (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after opsAll (launchContents m c) (Proc.devRef .tc b) :=
  run_seq scopedRefs_eq scopedSems_eq defs main (fun _ => opsAll) main_eq (fun _ => subAll) m ρ fun _ => freshAll

end Cert.Moe.Ref

end
-- ==== Proof.RefRun.lean ====
/- What the reference's result array holds at the end: the stretches read one after another. -/
module

public import proofs.«01_k».proof.Proof.RefOps
public import Idealize.ShloMosaic.Lib.Quiescent
public import Idealize.ShloMosaic.Lib.Pipeline.Frame

@[expose] public section

set_option Elab.async false

noncomputable section

namespace Cert.Moe.Ref

open Cert.ReferenceIdeal Cert.ReferenceIdeal.Gen Idealize.ShloMosaic Idealize.ShloMosaic.TcCoe Idealize.SL.Sem Idealize.ShloMosaic.StableHlo

variable {F : FTy → Type} [FloatOps F]

/-- An operation that writes one array of a list writes within the list. -/
theorem writes_mem {W : List (Ref sig .tc)} {y : Ref sig .tc} (h : y ∈ W) :
    ({Proc.devRef (τ := τ) .tc y} : Finset _) ⊆ (W.map (Proc.devRef (τ := τ) .tc)).toFinset := by
  rw [Finset.singleton_subset_iff, List.mem_toFinset]
  exact List.mem_map_of_mem h

/-- The arrays the stretch `Router` writes. -/
abbrev arraysRouter : List (Ref sig .tc) :=
  [main_v0, main_v1, main_v2, main_v3, main_cst, main_v4, main_cst_0, main_v5, main_v6, main_v7, main_v8, main_v9, main_v10, main_cst_1, main_v11,
    main_v12, main_v13, main_v14, main_cst_2, main_v15]

set_option maxRecDepth 8192 in
/-- The stretch `Router` writes those arrays only. -/
theorem writesRouter : (opsRouter : List (HloOp τ sig (Elt F))).Forall fun op =>
    op.writes ⊆ (arraysRouter.map (Proc.devRef (τ := τ) .tc)).toFinset :=
  ⟨writes_mem (by decide), writes_mem (by decide), writes_mem (by decide), writes_mem (by decide), writes_mem (by decide), writes_mem (by decide),
    writes_mem (by decide), writes_mem (by decide), writes_mem (by decide), writes_mem (by decide), writes_mem (by decide), writes_mem (by decide),
    writes_mem (by decide), writes_mem (by decide), writes_mem (by decide), writes_mem (by decide), writes_mem (by decide), writes_mem (by decide),
    writes_mem (by decide), writes_mem (by decide)⟩

/-- Another array keeps its contents through the stretch `Router`. -/
theorem keepRouter (V : Valuation τ sig (Elt F)) (r : Ref sig .tc) (h : r ∉ arraysRouter) :
    after opsRouter V (no_index (Proc.devRef .tc r)) = V (Proc.devRef .tc r) :=
  after_of_writes_sub opsRouter _ writesRouter h

set_option maxRecDepth 8192 in
set_option maxHeartbeats 2000000 in
/-- The stretch `Router` leaves in `main_v14` its stage of what it was handed. -/
theorem read_v14 (V : Valuation τ sig (Elt F)) :
    after opsRouter V (no_index (Proc.devRef .tc main_v14))
      = probsOf (V (Proc.devRef .tc main_arg0)) (V (Proc.devRef .tc main_arg1)) (V (Proc.devRef .tc main_arg2)) := by
  simp only [opsRouter]
  after_results_simp
  rfl

set_option maxRecDepth 8192 in
set_option maxHeartbeats 2000000 in
/-- The stretch `Router` leaves in `main_v15` its stage of what it was handed. -/
theorem read_v15 (V : Valuation τ sig (Elt F)) :
    after opsRouter V (no_index (Proc.devRef .tc main_v15))
      = best (probsOf (V (Proc.devRef .tc main_arg0)) (V (Proc.devRef .tc main_arg1)) (V (Proc.devRef .tc main_arg2))) := by
  simp only [opsRouter]
  after_results_simp
  rfl

/-- The arrays the stretch `Argmax` writes. -/
abbrev arraysArgmax : List (Ref sig .tc) :=
  [main_call0_v0, main_call0_cst, main_call0_c, main_call0_v1_0, main_v16]

set_option maxRecDepth 8192 in
/-- The stretch `Argmax` writes those arrays only. -/
theorem writesArgmax : (opsArgmax : List (HloOp τ sig (Elt F))).Forall fun op =>
    op.writes ⊆ (arraysArgmax.map (Proc.devRef (τ := τ) .tc)).toFinset :=
  ⟨writes_mem (by decide), writes_mem (by decide), writes_mem (by decide), writes_mem (by decide), writes_mem (by decide)⟩

/-- Another array keeps its contents through the stretch `Argmax`. -/
theorem keepArgmax (V : Valuation τ sig (Elt F)) (r : Ref sig .tc) (h : r ∉ arraysArgmax) :
    after opsArgmax V (no_index (Proc.devRef .tc r)) = V (Proc.devRef .tc r) :=
  after_of_writes_sub opsArgmax _ writesArgmax h

set_option maxRecDepth 8192 in
set_option maxHeartbeats 2000000 in
/-- The stretch `Argmax` leaves in `main_v16` its stage of what it was handed. -/
theorem read_v16 (V : Valuation τ sig (Elt F)) :
    after opsArgmax V (no_index (Proc.devRef .tc main_v16))
      = routes (V (Proc.devRef .tc main_v14)) := by
  simp only [opsArgmax, TRef.nullary, TRef.quaternary, TRef.toBuf, TRef.ofBuf, cast_eq]
  after_results_simp
  rfl

/-- The arrays the stretch `Ranks` writes. -/
abbrev arraysRanks : List (Ref sig .tc) :=
  [main_call1_v0, main_call1_v1, main_call1_v2, main_call1_v3, main_call1_v4, main_v17, main_call2_call0_c, main_call2_call0_v0, main_v18, main_c,
    main_v19, main_v20, main_v21]

set_option maxRecDepth 8192 in
/-- The stretch `Ranks` writes those arrays only. -/
theorem writesRanks : (opsRanks : List (HloOp τ sig (Elt F))).Forall fun op =>
    op.writes ⊆ (arraysRanks.map (Proc.devRef (τ := τ) .tc)).toFinset :=
  ⟨writes_mem (by decide), writes_mem (by decide), writes_mem (by decide), writes_mem (by decide), writes_mem (by decide), writes_mem (by decide),
    writes_mem (by decide), writes_mem (by decide), writes_mem (by decide), writes_mem (by decide), writes_mem (by decide), writes_mem (by decide),
    writes_mem (by decide)⟩

/-- Another array keeps its contents through the stretch `Ranks`. -/
theorem keepRanks (V : Valuation τ sig (Elt F)) (r : Ref sig .tc) (h : r ∉ arraysRanks) :
    after opsRanks V (no_index (Proc.devRef .tc r)) = V (Proc.devRef .tc r) :=
  after_of_writes_sub opsRanks _ writesRanks h

set_option maxRecDepth 8192 in
set_option maxHeartbeats 2000000 in
/-- The stretch `Ranks` leaves in `main_v20` its stage of what it was handed. -/
theorem read_v20 (V : Valuation τ sig (Elt F)) :
    after opsRanks V (no_index (Proc.devRef .tc main_v20))
      = ranksOf (V (Proc.devRef .tc main_v16)) := by
  simp only [opsRanks, TRef.binary, TRef.nullary, TRef.unary, TRef.toBuf, TRef.ofBuf, cast_eq]
  after_results_simp
  rfl

set_option maxRecDepth 8192 in
set_option maxHeartbeats 2000000 in
/-- The stretch `Ranks` leaves in `main_v21` its stage of what it was handed. -/
theorem read_v21 (V : Valuation τ sig (Elt F)) :
    after opsRanks V (no_index (Proc.devRef .tc main_v21))
      = column (V (Proc.devRef .tc main_v16)) := by
  simp only [opsRanks, TRef.binary, TRef.nullary, TRef.unary, TRef.toBuf, TRef.ofBuf, cast_eq]
  after_results_simp
  rfl

/-- The arrays the stretch `Pick` writes. -/
abbrev arraysPick : List (Ref sig .tc) :=
  [main_call3_c, main_call3_v0, main_call3_v1, main_call3_c_0, main_call3_v2, main_call3_v3, main_call3_v4, main_call3_v5, main_call3_c_1,
    main_call3_c_2, main_call3_v6, main_call3_v7, main_call3_v8, main_call3_v9, main_call3_v10, main_call3_v11, main_call3_c_3, main_call3_v12,
    main_call3_v13, main_call3_c_4, main_call3_v14, main_v22]

set_option maxRecDepth 8192 in
/-- The stretch `Pick` writes those arrays only. -/
theorem writesPick : (opsPick : List (HloOp τ sig (Elt F))).Forall fun op =>
    op.writes ⊆ (arraysPick.map (Proc.devRef (τ := τ) .tc)).toFinset :=
  ⟨writes_mem (by decide), writes_mem (by decide), writes_mem (by decide), writes_mem (by decide), writes_mem (by decide), writes_mem (by decide),
    writes_mem (by decide), writes_mem (by decide), writes_mem (by decide), writes_mem (by decide), writes_mem (by decide), writes_mem (by decide),
    writes_mem (by decide), writes_mem (by decide), writes_mem (by decide), writes_mem (by decide), writes_mem (by decide), writes_mem (by decide),
    writes_mem (by decide), writes_mem (by decide), writes_mem (by decide), writes_mem (by decide)⟩

/-- Another array keeps its contents through the stretch `Pick`. -/
theorem keepPick (V : Valuation τ sig (Elt F)) (r : Ref sig .tc) (h : r ∉ arraysPick) :
    after opsPick V (no_index (Proc.devRef .tc r)) = V (Proc.devRef .tc r) :=
  after_of_writes_sub opsPick _ writesPick h

set_option maxRecDepth 8192 in
set_option maxHeartbeats 2000000 in
/-- The stretch `Pick` leaves in `main_v22` its stage of what it was handed. -/
theorem read_v22 (V : Valuation τ sig (Elt F)) :
    after opsPick V (no_index (Proc.devRef .tc main_v22))
      = picked (wrapped (V (Proc.devRef .tc main_v21))) (V (Proc.devRef .tc main_v20)) := by
  simp only [opsPick, TRef.binary, TRef.nullary, TRef.reshape, TRef.ternary, TRef.unary, TRef.toBuf, TRef.ofBuf, cast_eq]
  after_results_simp
  rfl

/-- The arrays the stretch `Slots` writes. -/
abbrev arraysSlots : List (Ref sig .tc) :=
  [main_v23, main_c_3, main_v24, main_v25, main_c_4, main_v26, main_v27, main_c_5, main_v28, main_v29, main_v30, main_c_6, main_call4_v0, main_call4_v1,
    main_v31]

set_option maxRecDepth 8192 in
/-- The stretch `Slots` writes those arrays only. -/
theorem writesSlots : (opsSlots : List (HloOp τ sig (Elt F))).Forall fun op =>
    op.writes ⊆ (arraysSlots.map (Proc.devRef (τ := τ) .tc)).toFinset :=
  ⟨writes_mem (by decide), writes_mem (by decide), writes_mem (by decide), writes_mem (by decide), writes_mem (by decide), writes_mem (by decide),
    writes_mem (by decide), writes_mem (by decide), writes_mem (by decide), writes_mem (by decide), writes_mem (by decide), writes_mem (by decide),
    writes_mem (by decide), writes_mem (by decide), writes_mem (by decide)⟩

/-- Another array keeps its contents through the stretch `Slots`. -/
theorem keepSlots (V : Valuation τ sig (Elt F)) (r : Ref sig .tc) (h : r ∉ arraysSlots) :
    after opsSlots V (no_index (Proc.devRef .tc r)) = V (Proc.devRef .tc r) :=
  after_of_writes_sub opsSlots _ writesSlots h

set_option maxRecDepth 8192 in
set_option maxHeartbeats 2000000 in
/-- The stretch `Slots` leaves in `main_v25` its stage of what it was handed. -/
theorem read_v25 (V : Valuation τ sig (Elt F)) :
    after opsSlots V (no_index (Proc.devRef .tc main_v25))
      = kept (positions (V (Proc.devRef .tc main_v22))) := by
  simp only [opsSlots, TRef.ternary, TRef.unary, TRef.toBuf, TRef.ofBuf, cast_eq]
  after_results_simp
  rfl

set_option maxRecDepth 8192 in
set_option maxHeartbeats 2000000 in
/-- The stretch `Slots` leaves in `main_v30` its stage of what it was handed. -/
theorem read_v30 (V : Valuation τ sig (Elt F)) :
    after opsSlots V (no_index (Proc.devRef .tc main_v30))
      = slots (V (Proc.devRef .tc main_v16)) (positions (V (Proc.devRef .tc main_v22))) := by
  simp only [opsSlots, TRef.ternary, TRef.unary, TRef.toBuf, TRef.ofBuf, cast_eq]
  after_results_simp
  rfl

set_option maxRecDepth 8192 in
set_option maxHeartbeats 2000000 in
/-- The stretch `Slots` leaves in `main_v31` its stage of what it was handed. -/
theorem read_v31 (V : Valuation τ sig (Elt F)) :
    after opsSlots V (no_index (Proc.devRef .tc main_v31))
      = targets (kept (positions (V (Proc.devRef .tc main_v22)))) (slots (V (Proc.devRef .tc main_v16)) (positions (V (Proc.devRef .tc main_v22)))) := by
  simp only [opsSlots, TRef.ternary, TRef.unary, TRef.toBuf, TRef.ofBuf, cast_eq]
  after_results_simp
  rfl

/-- The arrays the stretch `Scatter` writes. -/
abbrev arraysScatter : List (Ref sig .tc) :=
  [main_cst_7, main_v32, main_c_8, main_v33, main_v34, main_c_9, main_v35, main_v36, main_v37, main_v38, main_v39]

set_option maxRecDepth 8192 in
/-- The stretch `Scatter` writes those arrays only. -/
theorem writesScatter : (opsScatter : List (HloOp τ sig (Elt F))).Forall fun op =>
    op.writes ⊆ (arraysScatter.map (Proc.devRef (τ := τ) .tc)).toFinset :=
  ⟨writes_mem (by decide), writes_mem (by decide), writes_mem (by decide), writes_mem (by decide), writes_mem (by decide), writes_mem (by decide),
    writes_mem (by decide), writes_mem (by decide), writes_mem (by decide), writes_mem (by decide), writes_mem (by decide)⟩

/-- Another array keeps its contents through the stretch `Scatter`. -/
theorem keepScatter (V : Valuation τ sig (Elt F)) (r : Ref sig .tc) (h : r ∉ arraysScatter) :
    after opsScatter V (no_index (Proc.devRef .tc r)) = V (Proc.devRef .tc r) :=
  after_of_writes_sub opsScatter _ writesScatter h

set_option maxRecDepth 8192 in
set_option maxHeartbeats 2000000 in
/-- The stretch `Scatter` leaves in `main_v39` its stage of what it was handed. -/
theorem read_v39 (V : Valuation τ sig (Elt F)) :
    after opsScatter V (no_index (Proc.devRef .tc main_v39))
      = buffer (targetCol (V (Proc.devRef .tc main_v31))) (V (Proc.devRef .tc main_arg0)) := by
  simp only [opsScatter]
  after_results_simp
  rfl

/-- The arrays the stretch `LayerOne` writes. -/
abbrev arraysLayerOne : List (Ref sig .tc) :=
  [main_v40, main_v41, main_v42, main_v43, main_cst_10, main_v44, main_v45, main_v46]

set_option maxRecDepth 8192 in
/-- The stretch `LayerOne` writes those arrays only. -/
theorem writesLayerOne : (opsLayerOne : List (HloOp τ sig (Elt F))).Forall fun op =>
    op.writes ⊆ (arraysLayerOne.map (Proc.devRef (τ := τ) .tc)).toFinset :=
  ⟨writes_mem (by decide), writes_mem (by decide), writes_mem (by decide), writes_mem (by decide), writes_mem (by decide), writes_mem (by decide),
    writes_mem (by decide), writes_mem (by decide)⟩

/-- Another array keeps its contents through the stretch `LayerOne`. -/
theorem keepLayerOne (V : Valuation τ sig (Elt F)) (r : Ref sig .tc) (h : r ∉ arraysLayerOne) :
    after opsLayerOne V (no_index (Proc.devRef .tc r)) = V (Proc.devRef .tc r) :=
  after_of_writes_sub opsLayerOne _ writesLayerOne h

set_option maxRecDepth 8192 in
set_option maxHeartbeats 2000000 in
/-- The stretch `LayerOne` leaves in `main_v45` its stage of what it was handed. -/
theorem read_v45 (V : Valuation τ sig (Elt F)) :
    after opsLayerOne V (no_index (Proc.devRef .tc main_v45))
      = halved (pre (V (Proc.devRef .tc main_v39)) (V (Proc.devRef .tc main_arg3)) (V (Proc.devRef .tc main_arg4))) := by
  simp only [opsLayerOne]
  after_results_simp
  rfl

set_option maxRecDepth 8192 in
set_option maxHeartbeats 2000000 in
/-- The stretch `LayerOne` leaves in `main_v46` its stage of what it was handed. -/
theorem read_v46 (V : Valuation τ sig (Elt F)) :
    after opsLayerOne V (no_index (Proc.devRef .tc main_v46))
      = negated (pre (V (Proc.devRef .tc main_v39)) (V (Proc.devRef .tc main_arg3)) (V (Proc.devRef .tc main_arg4))) := by
  simp only [opsLayerOne]
  after_results_simp
  rfl

/-- The arrays the stretch `LayerTwo` writes. -/
abbrev arraysLayerTwo : List (Ref sig .tc) :=
  [main_cst_11, main_v47, main_v48, main_v49, main_v50, main_v51, main_v52, main_v53, main_v54]

set_option maxRecDepth 8192 in
/-- The stretch `LayerTwo` writes those arrays only. -/
theorem writesLayerTwo : (opsLayerTwo : List (HloOp τ sig (Elt F))).Forall fun op =>
    op.writes ⊆ (arraysLayerTwo.map (Proc.devRef (τ := τ) .tc)).toFinset :=
  ⟨writes_mem (by decide), writes_mem (by decide), writes_mem (by decide), writes_mem (by decide), writes_mem (by decide), writes_mem (by decide),
    writes_mem (by decide), writes_mem (by decide), writes_mem (by decide)⟩

/-- Another array keeps its contents through the stretch `LayerTwo`. -/
theorem keepLayerTwo (V : Valuation τ sig (Elt F)) (r : Ref sig .tc) (h : r ∉ arraysLayerTwo) :
    after opsLayerTwo V (no_index (Proc.devRef .tc r)) = V (Proc.devRef .tc r) :=
  after_of_writes_sub opsLayerTwo _ writesLayerTwo h

set_option maxRecDepth 8192 in
set_option maxHeartbeats 2000000 in
/-- The stretch `LayerTwo` leaves in `main_v54` its stage of what it was handed. -/
theorem read_v54 (V : Valuation τ sig (Elt F)) :
    after opsLayerTwo V (no_index (Proc.devRef .tc main_v54))
      = results (act (V (Proc.devRef .tc main_v45)) (V (Proc.devRef .tc main_v46))) (V (Proc.devRef .tc main_arg5)) (V (Proc.devRef .tc main_arg6)) := by
  simp only [opsLayerTwo]
  after_results_simp
  rfl

/-- The arrays the stretch `Take` writes. -/
abbrev arraysTake : List (Ref sig .tc) :=
  [main_call5_c, main_call5_v0, main_call5_v1, main_call5_c_0, main_call5_v2, main_call5_v3, main_call5_v4, main_call5_v5, main_call5_c_1,
    main_call5_c_2, main_call5_v6, main_call5_v7, main_call5_v8, main_call5_v9, main_call5_v10, main_call5_v11, main_call5_c_3, main_call5_v12,
    main_call5_v13, main_call5_v14, main_call5_cst, main_call5_v15, main_v55]

set_option maxRecDepth 8192 in
/-- The stretch `Take` writes those arrays only. -/
theorem writesTake : (opsTake : List (HloOp τ sig (Elt F))).Forall fun op =>
    op.writes ⊆ (arraysTake.map (Proc.devRef (τ := τ) .tc)).toFinset :=
  ⟨writes_mem (by decide), writes_mem (by decide), writes_mem (by decide), writes_mem (by decide), writes_mem (by decide), writes_mem (by decide),
    writes_mem (by decide), writes_mem (by decide), writes_mem (by decide), writes_mem (by decide), writes_mem (by decide), writes_mem (by decide),
    writes_mem (by decide), writes_mem (by decide), writes_mem (by decide), writes_mem (by decide), writes_mem (by decide), writes_mem (by decide),
    writes_mem (by decide), writes_mem (by decide), writes_mem (by decide), writes_mem (by decide), writes_mem (by decide)⟩

/-- Another array keeps its contents through the stretch `Take`. -/
theorem keepTake (V : Valuation τ sig (Elt F)) (r : Ref sig .tc) (h : r ∉ arraysTake) :
    after opsTake V (no_index (Proc.devRef .tc r)) = V (Proc.devRef .tc r) :=
  after_of_writes_sub opsTake _ writesTake h

set_option maxRecDepth 8192 in
set_option maxHeartbeats 2000000 in
/-- The stretch `Take` leaves in `main_v55` its stage of what it was handed. -/
theorem read_v55 (V : Valuation τ sig (Elt F)) :
    after opsTake V (no_index (Proc.devRef .tc main_v55))
      = taken (slotCol (V (Proc.devRef .tc main_v30))) (V (Proc.devRef .tc main_v54)) := by
  simp only [opsTake, TRef.binary, TRef.nullary, TRef.ternary, TRef.unary, TRef.toBuf, TRef.ofBuf, cast_eq]
  after_results_simp
  rfl

/-- The arrays the stretch `Finish` writes. -/
abbrev arraysFinish : List (Ref sig .tc) :=
  [main_v56, main_call6_v0, main_v57, main_cst_12, main_call7_v0, main_v58, main_v59, main_v60, main_v61]

set_option maxRecDepth 8192 in
/-- The stretch `Finish` writes those arrays only. -/
theorem writesFinish : (opsFinish : List (HloOp τ sig (Elt F))).Forall fun op =>
    op.writes ⊆ (arraysFinish.map (Proc.devRef (τ := τ) .tc)).toFinset :=
  ⟨writes_mem (by decide), writes_mem (by decide), writes_mem (by decide), writes_mem (by decide), writes_mem (by decide), writes_mem (by decide),
    writes_mem (by decide), writes_mem (by decide), writes_mem (by decide)⟩

/-- Another array keeps its contents through the stretch `Finish`. -/
theorem keepFinish (V : Valuation τ sig (Elt F)) (r : Ref sig .tc) (h : r ∉ arraysFinish) :
    after opsFinish V (no_index (Proc.devRef .tc r)) = V (Proc.devRef .tc r) :=
  after_of_writes_sub opsFinish _ writesFinish h

set_option maxRecDepth 8192 in
set_option maxHeartbeats 2000000 in
/-- The stretch `Finish` leaves in `main_v61` its stage of what it was handed. -/
theorem read_v61 (V : Valuation τ sig (Elt F)) :
    after opsFinish V (no_index (Proc.devRef .tc main_v61))
      = output (rows (V (Proc.devRef .tc main_v25)) (V (Proc.devRef .tc main_v55)) (V (Proc.devRef .tc main_arg0))) (weights (V (Proc.devRef .tc main_v25))
        (V (Proc.devRef .tc main_v15))) := by
  simp only [opsFinish, TRef.ternary, TRef.unary, TRef.toBuf, TRef.ofBuf, cast_eq]
  after_results_simp
  rfl

set_option maxRecDepth 8192 in
set_option maxHeartbeats 2000000 in
/-- The operations in turn leave the reference's stages, composed, in the result array. -/
theorem after_result (V : Valuation τ sig (Elt F)) :
    after opsAll V (Proc.devRef .tc main_v61)
      = resultOf (V (Proc.devRef .tc main_arg0)) (V (Proc.devRef .tc main_arg1)) (V (Proc.devRef .tc main_arg2))
        (V (Proc.devRef .tc main_arg3)) (V (Proc.devRef .tc main_arg4)) (V (Proc.devRef .tc main_arg5)) (V (Proc.devRef .tc main_arg6)) := by
  simp only [opsAll, opsPart0, opsPart1, after_append]
  simp (disch := decide) only [keepRouter, keepArgmax, keepRanks, keepPick, keepSlots, keepScatter, keepLayerOne, keepLayerTwo, keepTake, keepFinish,
    read_v14, read_v15, read_v16, read_v20, read_v21, read_v22, read_v25, read_v30, read_v31, read_v39, read_v45, read_v46, read_v54, read_v55, read_v61]
  rfl

/-- Argument 0 ends unchanged. -/
theorem after_arg0 (V : Valuation τ sig (Elt F)) : after opsAll V (Proc.devRef .tc main_arg0) = V (Proc.devRef .tc main_arg0) := by
  simp only [opsAll, opsPart0, opsPart1, after_append]
  simp (disch := decide) only [keepRouter, keepArgmax, keepRanks, keepPick, keepSlots, keepScatter, keepLayerOne, keepLayerTwo, keepTake, keepFinish]

/-- Argument 1 ends unchanged. -/
theorem after_arg1 (V : Valuation τ sig (Elt F)) : after opsAll V (Proc.devRef .tc main_arg1) = V (Proc.devRef .tc main_arg1) := by
  simp only [opsAll, opsPart0, opsPart1, after_append]
  simp (disch := decide) only [keepRouter, keepArgmax, keepRanks, keepPick, keepSlots, keepScatter, keepLayerOne, keepLayerTwo, keepTake, keepFinish]

/-- Argument 2 ends unchanged. -/
theorem after_arg2 (V : Valuation τ sig (Elt F)) : after opsAll V (Proc.devRef .tc main_arg2) = V (Proc.devRef .tc main_arg2) := by
  simp only [opsAll, opsPart0, opsPart1, after_append]
  simp (disch := decide) only [keepRouter, keepArgmax, keepRanks, keepPick, keepSlots, keepScatter, keepLayerOne, keepLayerTwo, keepTake, keepFinish]

/-- Argument 3 ends unchanged. -/
theorem after_arg3 (V : Valuation τ sig (Elt F)) : after opsAll V (Proc.devRef .tc main_arg3) = V (Proc.devRef .tc main_arg3) := by
  simp only [opsAll, opsPart0, opsPart1, after_append]
  simp (disch := decide) only [keepRouter, keepArgmax, keepRanks, keepPick, keepSlots, keepScatter, keepLayerOne, keepLayerTwo, keepTake, keepFinish]

/-- Argument 4 ends unchanged. -/
theorem after_arg4 (V : Valuation τ sig (Elt F)) : after opsAll V (Proc.devRef .tc main_arg4) = V (Proc.devRef .tc main_arg4) := by
  simp only [opsAll, opsPart0, opsPart1, after_append]
  simp (disch := decide) only [keepRouter, keepArgmax, keepRanks, keepPick, keepSlots, keepScatter, keepLayerOne, keepLayerTwo, keepTake, keepFinish]

/-- Argument 5 ends unchanged. -/
theorem after_arg5 (V : Valuation τ sig (Elt F)) : after opsAll V (Proc.devRef .tc main_arg5) = V (Proc.devRef .tc main_arg5) := by
  simp only [opsAll, opsPart0, opsPart1, after_append]
  simp (disch := decide) only [keepRouter, keepArgmax, keepRanks, keepPick, keepSlots, keepScatter, keepLayerOne, keepLayerTwo, keepTake, keepFinish]

/-- Argument 6 ends unchanged. -/
theorem after_arg6 (V : Valuation τ sig (Elt F)) : after opsAll V (Proc.devRef .tc main_arg6) = V (Proc.devRef .tc main_arg6) := by
  simp only [opsAll, opsPart0, opsPart1, after_append]
  simp (disch := decide) only [keepRouter, keepArgmax, keepRanks, keepPick, keepSlots, keepScatter, keepLayerOne, keepLayerTwo, keepTake, keepFinish]

/-- Every run of the reference ends with the composed stages of the arguments in the result array and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61)
        = resultOf (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v61).trans (after_result (launchContents m c)),
      (h c main_arg0).trans (after_arg0 (launchContents m c)), (h c main_arg1).trans (after_arg1 (launchContents m c)), (h c main_arg2).trans (after_arg2 (launchContents m c)),
      (h c main_arg3).trans (after_arg3 (launchContents m c)), (h c main_arg4).trans (after_arg4 (launchContents m c)), (h c main_arg5).trans (after_arg5 (launchContents m c)),
      (h c main_arg6).trans (after_arg6 (launchContents m c))⟩) (run_after m ρ)

/-- Every run of the reference ends with its arguments unchanged and every counter at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run defs _ _).mono (fun r h => ⟨fun c => (h c).2, sem_eq_zero_of_no_sems (by decide) r.2⟩) (run m ρ)

end Cert.Moe.Ref

end
-- ==== Proof.Spec.lean ====
/- The mathematics both programs compute, written over plain functions of a token, a feature, an expert:
   the router's probabilities, the expert a token is sent to, a token's place in its expert's queue, the
   feed-forward network of one row, and the output row. -/
module

public import Idealize.ShloMosaic.Lib.Pointwise
public import Idealize.ShloMosaic.Lib.IdealHost

@[expose] public section

noncomputable section

namespace Cert.Moe

open Idealize.ShloMosaic

/-- The word `-∞` of a 32-bit float is the least extended real. -/
theorem ofBits_negInf : Ideal.ofBits .f32 0xFF800000#32 = ⊥ := by
  simp [Ideal.ofBits, Ideal.ieee]

/-- The word of `640.0`. -/
theorem ofBits_640 : Ideal.ofBits .f32 0x44200000#32 = ((640 : ℝ) : EReal) := by
  simp [Ideal.ofBits, Ideal.ieee]
  rw [← EReal.coe_mul]
  norm_num

/-- The greatest of the 64 values of `f`. -/
def top (f : Fin 64 → EReal) : EReal := Finset.univ.fold max ⊥ f

/-- The greatest value is the supremum. -/
theorem top_eq_sup (f : Fin 64 → EReal) : top f = Finset.univ.sup f := rfl

/-- Every value is at most the greatest. -/
theorem le_top (f : Fin 64 → EReal) (e : Fin 64) : f e ≤ top f := by
  rw [top_eq_sup]; exact Finset.le_sup (Finset.mem_univ e)

/-- The greatest value is one of the values. -/
theorem exists_eq_top (f : Fin 64 → EReal) : ∃ e, f e = top f := by
  obtain ⟨e, -, h⟩ := Finset.exists_mem_eq_sup (Finset.univ : Finset (Fin 64)) ⟨0, Finset.mem_univ _⟩ f
  exact ⟨e, by rw [top_eq_sup]; exact h.symm⟩

/-- The router's score of expert `e` for a token's row. -/
def logit (row : Fin 768 → EReal) (ws : Fin 768 → Fin 64 → EReal) (bs : Fin 64 → EReal) (e : Fin 64) : EReal :=
  (∑ k : Fin 768, row k * ws k e) + bs e

/-- The softmax of 64 scores, at expert `e`. -/
def softmax (l : Fin 64 → EReal) (e : Fin 64) : EReal :=
  Ideal.div (Ideal.exp (l e - top l)) (∑ e' : Fin 64, Ideal.exp (l e' - top l))

/-- The router's probability of expert `e` for a token's row. -/
def prob (row : Fin 768 → EReal) (ws : Fin 768 → Fin 64 → EReal) (bs : Fin 64 → EReal) (e : Fin 64) : EReal :=
  softmax (logit row ws bs) e

/-- The first expert at which the greatest value is taken. -/
def first (p : Fin 64 → EReal) : Fin 64 :=
  (Finset.univ.filter fun e => p e = top p).min' (by
    obtain ⟨e, h⟩ := exists_eq_top p
    exact ⟨e, by simp [h]⟩)

/-- The value at the first expert is the greatest one. -/
theorem first_spec (p : Fin 64 → EReal) : p (first p) = top p := by
  have h := Finset.min'_mem (Finset.univ.filter fun e => p e = top p) (by
    obtain ⟨e, h⟩ := exists_eq_top p
    exact ⟨e, by simp [h]⟩)
  exact (Finset.mem_filter.mp h).2

/-- No expert before the first one takes the greatest value. -/
theorem first_le (p : Fin 64 → EReal) (e : Fin 64) (h : p e = top p) : first p ≤ e :=
  Finset.min'_le _ _ (by simp [h])

/-- An expert that takes the greatest value and that no such expert precedes is the first. -/
theorem eq_first (p : Fin 64 → EReal) (e : Fin 64) (h : p e = top p) (hle : ∀ e', p e' = top p → e ≤ e') : e = first p :=
  le_antisymm (hle _ (first_spec p)) (first_le p e h)

/-- How many earlier tokens are sent to the expert of token `t`: the token's place in that expert's queue. -/
def place (R : Fin 32768 → Fin 64) (t : Fin 32768) : ℕ :=
  (Finset.univ.filter fun s : Fin 32768 => s < t ∧ R s = R t).card

/-- The exact Gaussian error linear unit, by the error function. -/
def gelu (h : EReal) : EReal :=
  Ideal.ofBits .f32 0x3F000000#32 * h * (1 + Ideal.erf (h * Ideal.ofBits .f32 0x3F3504F3#32))

/-- The same by the complementary error function of the opposite argument. -/
theorem gelu_eq_erfc (h : EReal) :
    Ideal.ofBits .f32 0x3F000000#32 * h * Ideal.erfc (-h * Ideal.ofBits .f32 0x3F3504F3#32) = gelu h := by
  rw [gelu, EReal.neg_mul, Ideal.erfc_neg]

/-- The hidden layer of one row. -/
def hidden (row : Fin 768 → EReal) (w1 : Fin 768 → Fin 3072 → EReal) (b1 : Fin 3072 → EReal) (f : Fin 3072) : EReal :=
  gelu ((∑ k : Fin 768, row k * w1 k f) + b1 f)

/-- The feed-forward network of one row. -/
def ffn (row : Fin 768 → EReal) (w1 : Fin 768 → Fin 3072 → EReal) (b1 : Fin 3072 → EReal)
    (w2 : Fin 3072 → Fin 768 → EReal) (b2 : Fin 768 → EReal) (j : Fin 768) : EReal :=
  (∑ f : Fin 3072, hidden row w1 b1 f * w2 f j) + b2 j

/-- The expert token `t` is sent to. -/
def route (x : Fin 32768 → Fin 768 → EReal) (ws : Fin 768 → Fin 64 → EReal) (bs : Fin 64 → EReal) (t : Fin 32768) : Fin 64 :=
  first (prob (x t) ws bs)

/-- The output: a token within its expert's first 640 gets the network's row times its probability, another keeps its row. -/
def out (x : Fin 32768 → Fin 768 → EReal) (ws : Fin 768 → Fin 64 → EReal) (bs : Fin 64 → EReal)
    (w1 : Fin 768 → Fin 3072 → EReal) (b1 : Fin 3072 → EReal) (w2 : Fin 3072 → Fin 768 → EReal) (b2 : Fin 768 → EReal)
    (t : Fin 32768) (j : Fin 768) : EReal :=
  if place (route x ws bs) t < 640 then ffn (x t) w1 b1 w2 b2 j * top (prob (x t) ws bs) else x t j

end Cert.Moe

end
-- ==== Proof.Count.lean ====
/- Counting tokens by expert: the tokens below a bound, split at the start of a block of 1024. -/
module

public import proofs.«01_k».proof.Proof.Spec

@[expose] public section

noncomputable section

namespace Cert.Moe

/-- Token `r` of block `n`. -/
def tok (n : ℕ) (hn : n < 32) (r : Fin 1024) : Fin 32768 := ⟨1024 * n + r.val, by have := r.isLt; omega⟩

/-- How many tokens numbered below `a` are sent to expert `e`. -/
def seen (R : Fin 32768 → Fin 64) (a : ℕ) (e : Fin 64) : ℕ :=
  (Finset.univ.filter fun s : Fin 32768 => s.val < a ∧ R s = e).card

/-- No token is numbered below zero. -/
theorem seen_zero (R : Fin 32768 → Fin 64) (e : Fin 64) : seen R 0 e = 0 := by
  simp [seen]

/-- A token's place is the count of its expert below it. -/
theorem place_eq_seen (R : Fin 32768 → Fin 64) (t : Fin 32768) : place R t = seen R t.val (R t) := rfl

/-- The tokens below a bound inside block `n`: those below the block and the block's own. -/
theorem seen_block (R : Fin 32768 → Fin 64) (n : ℕ) (hn : n < 32) (a : ℕ) (ha : a ≤ 1024) (e : Fin 64) :
    seen R (1024 * n + a) e
      = (Finset.univ.filter fun q : Fin 1024 => q.val < a ∧ R (tok n hn q) = e).card + seen R (1024 * n) e := by
  have hinj : Function.Injective (tok n hn) := fun p q h => by
    have := congrArg Fin.val h
    simp only [tok] at this
    exact Fin.ext (by omega)
  rw [← Finset.card_map ⟨tok n hn, hinj⟩, seen, seen]
  have key : ∀ (A B C : Finset (Fin 32768)), Disjoint B C → A = B ∪ C → A.card = B.card + C.card := fun A B C hd h => by
    rw [h, Finset.card_union_of_disjoint hd]
  apply key
  rotate_left
  · ext s
    simp only [Finset.mem_filter, Finset.mem_univ, true_and, Finset.mem_union, Finset.mem_map, Function.Embedding.coeFn_mk]
    constructor
    · rintro ⟨h, h'⟩
      by_cases hs : s.val < 1024 * n
      · exact .inr ⟨hs, h'⟩
      · have e1 : tok n hn ⟨s.val - 1024 * n, by omega⟩ = s := Fin.ext (by simp only [tok]; omega)
        refine .inl ⟨⟨s.val - 1024 * n, by omega⟩, ⟨by simp only; omega, by rw [e1]; exact h'⟩, e1⟩
    · rintro (⟨q, ⟨h, h'⟩, rfl⟩ | ⟨h, h'⟩)
      · exact ⟨by simp only [tok]; omega, h'⟩
      · exact ⟨by omega, h'⟩
  · rw [Finset.disjoint_left]
    intro s h h'
    simp only [Finset.mem_filter, Finset.mem_univ, true_and, Finset.mem_map, Function.Embedding.coeFn_mk] at h h'
    obtain ⟨q, -, rfl⟩ := h
    have := h'.1
    simp only [tok] at this
    omega

/-- The count after block `n` is the count before it and the block's own. -/
theorem seen_succ (R : Fin 32768 → Fin 64) (n : ℕ) (hn : n < 32) (e : Fin 64) :
    seen R (1024 * (n + 1)) e
      = seen R (1024 * n) e + (Finset.univ.filter fun q : Fin 1024 => R (tok n hn q) = e).card := by
  rw [show 1024 * (n + 1) = 1024 * n + 1024 from by ring, seen_block R n hn 1024 le_rfl, Nat.add_comm]
  congr 2
  ext q
  simp

/-- The place of token `r` of block `n`: its expert's count inside the block and its expert's count before the block. -/
theorem place_tok (R : Fin 32768 → Fin 64) (n : ℕ) (hn : n < 32) (r : Fin 1024) :
    place R (tok n hn r)
      = (Finset.univ.filter fun q : Fin 1024 => q < r ∧ R (tok n hn q) = R (tok n hn r)).card
        + seen R (1024 * n) (R (tok n hn r)) := by
  rw [place_eq_seen]
  exact seen_block R n hn r.val r.isLt.le _

end Cert.Moe

end
-- ==== Proof.KernelBlock.lean ====
/- What one grid point of the kernel computes from its blocks, element by element: the payloads of its
   memory operations read at an index. -/
module

public import proofs.«01_k».proof.Proof.Spec
public import proofs.«01_k».proof.Proof.Gen.KernelIdeal.Skeleton

@[expose] public section

noncomputable section

namespace Cert.Moe.Block

open Idealize.ShloMosaic
open Cert.KernelIdeal Cert.KernelIdeal.Gen

/-- Row `r` of a block of two axes. -/
abbrev rowOf {a b : ℕ} (v : (⟨2, ![a, b]⟩ : Shape).Idx → EReal) : Fin a → Fin b → EReal := fun r k => v (ix2 r k)

variable (x : Vec Ideal S1024x768 .f32) (ws : Vec Ideal S768x64 .f32) (bs : Vec Ideal S1x64 .f32)

/-- The block's probabilities are the router's, row by row. -/
theorem probs_apply (r : Fin 1024) (e : Fin 64) :
    k0_pay4 x ws bs (ix2 r e) = prob (rowOf x r) (rowOf ws) (rowOf bs 0) e := by
  pointwise [k0_pay4]
  rw [ofBits_negInf]
  rfl

/-- The block's greatest probability of a row. -/
theorem pmax_apply (r : Fin 1024) (z : Fin 1) :
    k0_pay5 x ws bs (ix2 r z) = top (prob (rowOf x r) (rowOf ws) (rowOf bs 0)) := by
  pointwise [k0_pay5]
  rw [ofBits_negInf]
  exact Finset.fold_congr fun e _ => probs_apply x ws bs r e

/-- The bit that marks the experts at which a row's probability is its greatest. -/
theorem isTop_apply (r : Fin 1024) (e : Fin 64) :
    k0_pay6 x ws bs (ix2 r e)
      = BitVec.ofBool (decide (prob (rowOf x r) (rowOf ws) (rowOf bs 0) e = top (prob (rowOf x r) (rowOf ws) (rowOf bs 0)))) := by
  pointwise [k0_pay6]
  rw [probs_apply, pmax_apply]

/-- The signed minimum of words, as a fold, is the minimum of the numbers they stand for. -/
theorem toInt_fold_minsi (b : BitVec 32) (f : Fin 64 → BitVec 32) :
    (Finset.univ.fold IntOp.minsi b f).toInt = Finset.univ.fold min b.toInt fun e => (f e).toInt :=
  (Finset.fold_hom (m := BitVec.toInt) fun x y => by
    show (if x.slt y then x else y).toInt = _
    by_cases h : x.toInt < y.toInt
    · rw [show x.slt y = true from decide_eq_true h, if_pos rfl, min_eq_left h.le]
    · rw [show x.slt y = false from decide_eq_false h, if_neg Bool.false_ne_true, min_eq_right (not_lt.mp h)]).symm

/-- The word of an expert's number, read signed. -/
theorem toInt_ofNat_expert (n : ℕ) (h : n < 2 ^ 31) : (BitVec.ofNat 32 n).toInt = n := by
  rw [BitVec.toInt_eq_toNat_of_lt (by rw [BitVec.toNat_ofNat]; omega), BitVec.toNat_ofNat]
  congr 1; omega

/-- The least number among the marked experts' is the first marked expert's. -/
theorem fold_first (p : Fin 64 → EReal) :
    Finset.univ.fold IntOp.minsi 2147483647#32
        (fun e : Fin 64 => Scalar.select (BitVec.ofBool (decide (p e = top p))) (BitVec.ofNat 32 e.val) 64#32)
      = BitVec.ofNat 32 (first p).val := by
  apply BitVec.eq_of_toInt_eq
  rw [toInt_fold_minsi, toInt_ofNat_expert (first p).val (by have := (first p).isLt; omega)]
  have hv : ∀ e : Fin 64, (Scalar.select (BitVec.ofBool (decide (p e = top p))) (BitVec.ofNat 32 e.val) 64#32).toInt
      = if p e = top p then (e.val : ℤ) else 64 := fun e => by
    by_cases h : p e = top p
    · rw [if_pos h, decide_eq_true h]; exact toInt_ofNat_expert _ (by have := e.isLt; omega)
    · rw [if_neg h, decide_eq_false h]; rfl
  rw [Finset.fold_congr fun e _ => hv e]
  apply le_antisymm
  · exact Finset.fold_min_le _ |>.mpr (.inr ⟨first p, Finset.mem_univ _, by rw [if_pos (first_spec p)]⟩)
  · refine Finset.le_fold_min _ |>.mpr ⟨?_, fun e _ => ?_⟩
    · have := (first p).isLt
      show ((first p).val : ℤ) ≤ 2147483647
      omega
    · by_cases h : p e = top p
      · rw [if_pos h]; exact_mod_cast first_le p e h
      · rw [if_neg h]; have := (first p).isLt; omega

/-- The two numbers of experts as words are equal only when the experts are. -/
theorem cmpi_expert (a b : Fin 64) :
    IntOp.cmpi .eq (BitVec.ofNat 32 a.val) (BitVec.ofNat 32 b.val) = BitVec.ofBool (decide (a = b)) := by
  show BitVec.ofBool (decide (BitVec.ofNat 32 a.val = BitVec.ofNat 32 b.val)) = _
  congr 2
  refine propext ⟨fun h => Fin.ext ?_, fun h => by rw [h]⟩
  have := congrArg BitVec.toNat h
  simp only [BitVec.toNat_ofNat] at this
  have := a.isLt; have := b.isLt; omega

/-- A bit widened to 32 bits and read as a float is one or zero. -/
theorem sitofp_bit (p : Prop) [Decidable p] :
    FloatOps.sitofp (F := Ideal) .f32 (BitVec.setWidth 32 (BitVec.ofBool (decide p))) = if p then (1 : EReal) else 0 := by
  by_cases h : p
  · rw [if_pos h, decide_eq_true h]
    show (((BitVec.setWidth 32 (BitVec.ofBool true)).toInt : ℝ) : EReal) = 1
    rw [show (BitVec.setWidth 32 (BitVec.ofBool true)).toInt = 1 from by decide]; norm_num
  · rw [if_neg h, decide_eq_false h]
    show (((BitVec.setWidth 32 (BitVec.ofBool false)).toInt : ℝ) : EReal) = 0
    rw [show (BitVec.setWidth 32 (BitVec.ofBool false)).toInt = 0 from by decide]; norm_num

/-- The expert of the block's row `r`. -/
def expert (r : Fin 1024) : Fin 64 := first (prob (rowOf x r) (rowOf ws) (rowOf bs 0))

/-- The experts' numbers, one per column. -/
abbrev cols : IVec S1024x64 32 := iota .tc S1024x64 32 [1] iota_S1024x64_d1_w32

/-- The block's one-hot rows: one at the row's expert, zero elsewhere. -/
theorem onehot_apply (r : Fin 1024) (e : Fin 64) :
    k0_pay7 (F := Ideal) cols (k0_pay6 x ws bs) (ix2 r e) = if expert x ws bs r = e then (1 : EReal) else 0 := by
  pointwise [k0_pay7]
  simp only [isTop_apply]
  rw [fold_first, cmpi_expert, sitofp_bit]
  rfl

/-- How many of the block's rows are sent to expert `e`. -/
def load (e : Fin 64) : ℕ := (Finset.univ.filter fun r : Fin 1024 => expert x ws bs r = e).card

/-- How many of the block's rows before row `r` are sent to `r`'s expert. -/
def before (r : Fin 1024) : ℕ :=
  (Finset.univ.filter fun s : Fin 1024 => s < r ∧ expert x ws bs s = expert x ws bs r).card

/-- The carried counts after the block: each expert's count grown by the block's rows sent to it. -/
theorem counts_apply (v : Vec Ideal S1x64 .f32) (z : Fin 1) (e : Fin 64) :
    k0_pay8 (F := Ideal) cols (k0_pay6 x ws bs) v (ix2 z e) = v (ix2 z e) + ((load x ws bs e : ℕ) : EReal) := by
  pointwise [k0_pay8]
  rw [Finset.sum_congr rfl fun r _ => onehot_apply x ws bs r e, Finset.sum_boole]
  rfl

/-- The comparison of two row numbers of the block. -/
theorem cmpi_rows (a b : Fin 1024) :
    IntOp.cmpi .sge (BitVec.ofNat 32 a.val) (BitVec.ofNat 32 b.val) = BitVec.ofBool (decide (b ≤ a)) := by
  show BitVec.ofBool (BitVec.sle (BitVec.ofNat 32 b.val) (BitVec.ofNat 32 a.val)) = _
  congr 1
  have := a.isLt; have := b.isLt
  rw [BitVec.sle_eq_decide, toInt_ofNat_expert _ (by omega), toInt_ofNat_expert _ (by omega)]
  exact decide_eq_decide.mpr (Nat.cast_le.trans Iff.rfl)

/-- The running count of a row's own expert, the row included. -/
theorem upTo_eq (r : Fin 1024) :
    (Finset.univ.filter fun s : Fin 1024 => s ≤ r ∧ expert x ws bs s = expert x ws bs r).card = before x ws bs r + 1 := by
  rw [before]
  have : (Finset.univ.filter fun s : Fin 1024 => s ≤ r ∧ expert x ws bs s = expert x ws bs r)
      = insert r (Finset.univ.filter fun s : Fin 1024 => s < r ∧ expert x ws bs s = expert x ws bs r) := by
    ext s
    simp only [Finset.mem_filter, Finset.mem_univ, true_and, Finset.mem_insert]
    constructor
    · rintro ⟨h, h'⟩
      rcases lt_or_eq_of_le h with h | h
      · exact .inr ⟨h, h'⟩
      · exact .inl h
    · rintro (h | ⟨h, h'⟩)
      · subst h; exact ⟨le_rfl, rfl⟩
      · exact ⟨h.le, h'⟩
  rw [this, Finset.card_insert_of_notMem (by simp)]

/-- The bit of a row kept: its expert's count before the block and its place inside the block together below 640. -/
theorem kept_apply (n : Fin 64 → ℕ) (v : Vec Ideal S1x64 .f32) (hv : ∀ e, v (ix2 0 e) = ((n e : ℕ) : EReal))
    (r : Fin 1024) (z : Fin 1) :
    k0_pay10 (F := Ideal) cols (k0_pay6 x ws bs) v (ix2 r z)
      = BitVec.ofBool (decide (before x ws bs r + n (expert x ws bs r) < 640)) := by
  pointwise [k0_pay10]
  have h1 : ∀ e : Fin 64, (∑ s : Fin 1024, FloatOps.sitofp (F := Ideal) .f32
        (BitVec.setWidth 32 (IntOp.cmpi .sge (BitVec.ofNat 32 r.val) (BitVec.ofNat 32 s.val)))
        * k0_pay7 (F := Ideal) cols (k0_pay6 x ws bs) (ix2 s e))
      = ((((Finset.univ.filter fun s : Fin 1024 => s ≤ r ∧ expert x ws bs s = e).card : ℕ)) : EReal) := fun e => by
    rw [← Finset.sum_boole]
    refine Finset.sum_congr rfl fun s _ => ?_
    rw [cmpi_rows, sitofp_bit, onehot_apply, ite_and]
    split <;> simp
  simp only [h1]
  simp only [onehot_apply, hv, ofBits_640]
  simp only [mul_ite, mul_one, mul_zero, ite_mul, one_mul, zero_mul, Finset.sum_ite_eq, Finset.mem_univ, if_true]
  rw [upTo_eq]
  congr 2
  have e1 : (((before x ws bs r + 1 : ℕ) : EReal) - 1 + ((n (expert x ws bs r) : ℕ) : EReal))
      = (((before x ws bs r + n (expert x ws bs r) : ℕ) : ℝ) : EReal) := by
    rw [← EReal.coe_coe_eq_natCast, ← EReal.coe_coe_eq_natCast, ← EReal.coe_one, ← EReal.coe_sub, ← EReal.coe_add]
    congr 1
    push_cast; ring
  rw [e1, EReal.coe_lt_coe_iff]
  norm_cast

/-- The hidden layer of a row of the block. -/
theorem hidden_apply (w1 : Vec Ideal S768x3072 .f32) (b1 : Vec Ideal S1x3072 .f32) (r : Fin 1024) (f : Fin 3072) :
    k0_pay3 x w1 b1 (ix2 r f) = hidden (rowOf x r) (rowOf w1) (rowOf b1 0) f := by
  pointwise [k0_pay3]
  rfl

/-- The network's row times the row's greatest probability. -/
theorem scaled_apply (w1 : Vec Ideal S768x3072 .f32) (b1 : Vec Ideal S1x3072 .f32) (w2 : Vec Ideal S3072x768 .f32)
    (b2 : Vec Ideal S1x768 .f32) (r : Fin 1024) (j : Fin 768) :
    k0_pay9 (k0_pay3 x w1 b1) (k0_pay5 x ws bs) w2 b2 (ix2 r j)
      = ffn (rowOf x r) (rowOf w1) (rowOf b1 0) (rowOf w2) (rowOf b2 0) j * top (prob (rowOf x r) (rowOf ws) (rowOf bs 0)) := by
  pointwise [k0_pay9]
  rw [pmax_apply]
  simp only [hidden_apply]
  rfl

/-- The output block: a row kept gets the network's row times its probability, another keeps its row. -/
theorem block_apply (w1 : Vec Ideal S768x3072 .f32) (b1 : Vec Ideal S1x3072 .f32) (w2 : Vec Ideal S3072x768 .f32)
    (b2 : Vec Ideal S1x768 .f32) (n : Fin 64 → ℕ) (v : Vec Ideal S1x64 .f32) (hv : ∀ e, v (ix2 0 e) = ((n e : ℕ) : EReal))
    (r : Fin 1024) (j : Fin 768) :
    k0_pay1 x (k0_pay9 (k0_pay3 x w1 b1) (k0_pay5 x ws bs) w2 b2) (k0_pay10 (F := Ideal) cols (k0_pay6 x ws bs) v) (ix2 r j)
      = if before x ws bs r + n (expert x ws bs r) < 640 then
          ffn (rowOf x r) (rowOf w1) (rowOf b1 0) (rowOf w2) (rowOf b2 0) j * top (prob (rowOf x r) (rowOf ws) (rowOf bs 0))
        else x (ix2 r j) := by
  pointwise [k0_pay1]
  rw [kept_apply x ws bs n v hv, scaled_apply]
  by_cases h : before x ws bs r + n (expert x ws bs r) < 640
  · rw [if_pos h, decide_eq_true h]; rfl
  · rw [if_neg h, decide_eq_false h]; rfl

/-- The first point's counts are zero. -/
theorem zeros_apply (z : Fin 1) (e : Fin 64) : k0_pay2 (F := Ideal) (ix2 z e) = ((0 : ℕ) : EReal) := by
  pointwise [k0_pay2]
  simp

end Cert.Moe.Block

end
-- ==== Proof.KernelPoint.lean ====
/- What the kernel leaves at one grid point, as payloads of the blocks it read: the output block and the carried
   counts, at the grid's first point (which zeroes the counts) and at a later one (which finds them). -/
module

public import proofs.«01_k».proof.Proof.KernelBlock
public import proofs.«01_k».proof.Proof.Gen.KernelIdeal.Value
public import Idealize.ShloMosaic.Lib.Pipeline.Value
public import Idealize.ShloMosaic.Lib.Tactic

@[expose] public section

noncomputable section

namespace Cert.Moe.Point

open Idealize.ShloMosaic Idealize.ShloMosaic.TcCoe Idealize.SL.Sem
open Cert.KernelIdeal Cert.KernelIdeal.Gen Cert.Moe.Block

/-- The literal offsets of a whole access are zero. -/
theorem offsets_zero : (![0, 0] : Fin 2 → Nat) = fun _ => 0 := funext fun a => by fin_cases a <;> rfl

/-- The output block from the input blocks and the counts found. -/
def outBlock (x0 : Vec Ideal S1024x768 .f32) (x1 : Vec Ideal S768x64 .f32) (x2 : Vec Ideal S1x64 .f32)
    (x3 : Vec Ideal S768x3072 .f32) (x4 : Vec Ideal S1x3072 .f32) (x5 : Vec Ideal S3072x768 .f32) (x6 : Vec Ideal S1x768 .f32)
    (v : Vec Ideal S1x64 .f32) : Vec Ideal S1024x768 .f32 :=
  k0_pay1 x0 (k0_pay9 (k0_pay3 x0 x3 x4) (k0_pay5 x0 x1 x2) x5 x6) (k0_pay10 (F := Ideal) cols (k0_pay6 x0 x1 x2) v)

/-- The counts left from the input blocks and the counts found. -/
def outCounts (x0 : Vec Ideal S1024x768 .f32) (x1 : Vec Ideal S768x64 .f32) (x2 : Vec Ideal S1x64 .f32)
    (v : Vec Ideal S1x64 .f32) : Vec Ideal S1x64 .f32 :=
  k0_pay8 (F := Ideal) cols (k0_pay6 x0 x1 x2) v

variable (c : Dev nD) (i : grid0.Coords) (a1 : Memref sig .tc .vmem S1024x768 .f32) (h1 : a1.IsWhole)
  (a2 : Memref sig .tc .vmem S768x64 .f32) (h2 : a2.IsWhole) (a3 : Memref sig .tc .vmem S1x64 .f32) (h3 : a3.IsWhole)
  (a4 : Memref sig .tc .vmem S768x3072 .f32) (h4 : a4.IsWhole) (a5 : Memref sig .tc .vmem S1x3072 .f32) (h5 : a5.IsWhole)
  (a6 : Memref sig .tc .vmem S3072x768 .f32) (h6 : a6.IsWhole) (a7 : Memref sig .tc .vmem S1x768 .f32) (h7 : a7.IsWhole)
  (a8 : Memref sig .tc .vmem S1024x768 .f32) (h8 : a8.IsWhole) (a9 : Memref sig .tc .vmem S1x64 .f32) (h9 : a9.IsWhole)
  (x0 : Vec Ideal S1024x768 .f32) (x1 : Vec Ideal S768x64 .f32) (x2 : Vec Ideal S1x64 .f32)
  (x3 : Vec Ideal S768x3072 .f32) (x4 : Vec Ideal S1x3072 .f32) (x5 : Vec Ideal S3072x768 .f32) (x6 : Vec Ideal S1x768 .f32)
  (v : Vec Ideal S1x64 .f32)

/-- A later point's output block. -/
theorem out_later (hc : ¬cond0_0 i) :
    out0_B_7 (F := Ideal) c i a1 h1 a2 h2 a3 h3 a4 h4 a5 h5 a6 h6 a7 h7 a8 h8 a9 h9 hc x0 x1 x2 x3 x4 x5 x6 v
      = outBlock x0 x1 x2 x3 x4 x5 x6 v := by
  unfold out0_B_7
  rw [View.read_writes_eq_canon _ _ _ (cover0_B_7 c i a1 h1 a2 h2 a3 h3 a4 h4 a5 h5 a6 h6 a7 h7 a8 h8 a9 h9 hc x0 x1 x2 x3 x4 x5 x6 v)]
  unfold kernelRun0_B
  dsimp only
  rw [View.canon_unit_zero offsets_zero]
  sl_unfold_words
  simp only [View.readAt_eq_ld, h1.read_unread, h2.read_unread, h3.read_unread, h4.read_unread, h5.read_unread,
    h6.read_unread, h7.read_unread, h9.read_unread, View.ld_unit_zero (S := S1024x768) offsets_zero,
    View.ld_unit_zero (S := S768x64) offsets_zero, View.ld_unit_zero (S := S1x64) offsets_zero,
    View.ld_unit_zero (S := S768x3072) offsets_zero, View.ld_unit_zero (S := S1x3072) offsets_zero,
    View.ld_unit_zero (S := S3072x768) offsets_zero, View.ld_unit_zero (S := S1x768) offsets_zero]
  rfl

/-- A later point's counts. -/
theorem counts_later (hc : ¬cond0_0 i) :
    sout0_B_0 (F := Ideal) c i a1 h1 a2 h2 a3 h3 a4 h4 a5 h5 a6 h6 a7 h7 a8 h8 a9 h9 hc x0 x1 x2 x3 x4 x5 x6 v
      = outCounts x0 x1 x2 v := by
  unfold sout0_B_0
  rw [View.read_writes_eq_canon _ _ _ (scover0_B_0 c i a1 h1 a2 h2 a3 h3 a4 h4 a5 h5 a6 h6 a7 h7 a8 h8 a9 h9 hc x0 x1 x2 x3 x4 x5 x6 v)]
  unfold kernelRun0_B
  dsimp only
  rw [View.canon_unit_zero offsets_zero]
  sl_unfold_words
  simp only [View.readAt_eq_ld, h1.read_unread, h2.read_unread, h3.read_unread, h9.read_unread,
    View.ld_unit_zero (S := S1024x768) offsets_zero,
    View.ld_unit_zero (S := S768x64) offsets_zero, View.ld_unit_zero (S := S1x64) offsets_zero]
  rfl

/-- The first point's output block: the counts it finds are the zeros it stored. -/
theorem out_first (hc : cond0_0 i) :
    out0_A_7 (F := Ideal) c i a1 h1 a2 h2 a3 h3 a4 h4 a5 h5 a6 h6 a7 h7 a8 h8 a9 h9 hc x0 x1 x2 x3 x4 x5 x6
      = outBlock x0 x1 x2 x3 x4 x5 x6 (k0_pay2 (F := Ideal)) := by
  unfold out0_A_7
  rw [View.read_writes_eq_canon _ _ _ (cover0_A_7 c i a1 h1 a2 h2 a3 h3 a4 h4 a5 h5 a6 h6 a7 h7 a8 h8 a9 h9 hc x0 x1 x2 x3 x4 x5 x6)]
  unfold kernelRun0_A
  dsimp only
  rw [View.canon_unit_zero offsets_zero]
  sl_unfold_words
  simp only [View.readCov_unit_zero (S := S1x64) _ offsets_zero, View.readAt_eq_ld, h1.read_unread, h2.read_unread, h3.read_unread, h4.read_unread, h5.read_unread,
    h6.read_unread, h7.read_unread, h9.read_unread, View.ld_unit_zero (S := S1024x768) offsets_zero,
    View.ld_unit_zero (S := S768x64) offsets_zero, View.ld_unit_zero (S := S1x64) offsets_zero,
    View.ld_unit_zero (S := S768x3072) offsets_zero, View.ld_unit_zero (S := S1x3072) offsets_zero,
    View.ld_unit_zero (S := S3072x768) offsets_zero, View.ld_unit_zero (S := S1x768) offsets_zero]
  rfl

/-- The first point's counts: the block's own, over zeros. -/
theorem counts_first (hc : cond0_0 i) :
    sout0_A_0 (F := Ideal) c i a1 h1 a2 h2 a3 h3 a4 h4 a5 h5 a6 h6 a7 h7 a8 h8 a9 h9 hc x0 x1 x2 x3 x4 x5 x6
      = outCounts x0 x1 x2 (k0_pay2 (F := Ideal)) := by
  unfold sout0_A_0
  rw [View.read_writes_eq_canon _ _ _ (scover0_A_0 c i a1 h1 a2 h2 a3 h3 a4 h4 a5 h5 a6 h6 a7 h7 a8 h8 a9 h9 hc x0 x1 x2 x3 x4 x5 x6)]
  unfold kernelRun0_A
  dsimp only
  sl_unfold_words
  rw [View.canon_cons_unit_zero (S := S1x64) offsets_zero]
  simp only [View.readCov_unit_zero (S := S1x64) _ offsets_zero, View.readAt_eq_ld, h1.read_unread, h2.read_unread, h3.read_unread, h9.read_unread,
    View.ld_unit_zero (S := S1024x768) offsets_zero,
    View.ld_unit_zero (S := S768x64) offsets_zero, View.ld_unit_zero (S := S1x64) offsets_zero]
  rfl

end Cert.Moe.Point

end
-- ==== Proof.KernelValue.lean ====
/- What the kernel's result array holds after the run: the output rows of the specification. The carried counts after
   point `n` are the numbers of tokens below `1024 * (n + 1)` sent to each expert, by induction on the point. -/
module

public import proofs.«01_k».proof.Proof.Count
public import proofs.«01_k».proof.Proof.KernelPoint

@[expose] public section

noncomputable section

namespace Cert.Moe.KernelValue

open Idealize.ShloMosaic Idealize.ShloMosaic.TcCoe Idealize.SL.Sem
open Cert.KernelIdeal Cert.KernelIdeal.Gen Cert.KernelIdeal.Value Cert.Moe.Block Cert.Moe.Point

variable (m : (ℓ : Loc nD τ sig) → Buf (Elt Ideal) ℓ) (c : Dev nD)

/-- The tokens' rows. -/
abbrev argX : Fin 32768 → Fin 768 → EReal := fun t k => m ((c : Thread nD τ).loc main_arg0) (ix2 t k)
/-- The router's weights. -/
abbrev argWs : Fin 768 → Fin 64 → EReal := fun k e => m ((c : Thread nD τ).loc main_arg1) (ix2 k e)
/-- The router's bias. -/
abbrev argBs : Fin 64 → EReal := fun e => m ((c : Thread nD τ).loc main_arg2) (ix1 e)
/-- The hidden layer's weights. -/
abbrev argW1 : Fin 768 → Fin 3072 → EReal := fun k f => m ((c : Thread nD τ).loc main_arg3) (ix2 k f)
/-- The hidden layer's bias. -/
abbrev argB1 : Fin 3072 → EReal := fun f => m ((c : Thread nD τ).loc main_arg4) (ix1 f)
/-- The output layer's weights. -/
abbrev argW2 : Fin 3072 → Fin 768 → EReal := fun f j => m ((c : Thread nD τ).loc main_arg5) (ix2 f j)
/-- The output layer's bias. -/
abbrev argB2 : Fin 768 → EReal := fun j => m ((c : Thread nD τ).loc main_arg6) (ix1 j)

/-- The region finds the router's bias as one row. -/
theorem V_bs : V m c main_v0 = shapeCast S1x64 (m ((c : Thread nD τ).loc main_arg2)) shapeCasts_S64_S1x64 := by
  show StableHlo.after hostOps0 (fun b => m (c, b)) (Proc.devRef .tc main_v0) = _
  after_results_simp
  rfl

/-- The region finds the hidden layer's bias as one row. -/
theorem V_b1 : V m c main_v1 = shapeCast S1x3072 (m ((c : Thread nD τ).loc main_arg4)) shapeCasts_S3072_S1x3072 := by
  show StableHlo.after hostOps0 (fun b => m (c, b)) (Proc.devRef .tc main_v1) = _
  after_results_simp
  rfl

/-- The region finds the output layer's bias as one row. -/
theorem V_b2 : V m c main_v2 = shapeCast S1x768 (m ((c : Thread nD τ).loc main_arg6)) shapeCasts_S768_S1x768 := by
  show StableHlo.after hostOps0 (fun b => m (c, b)) (Proc.devRef .tc main_v2) = _
  after_results_simp
  rfl

/-- The grid has 32 points. -/
theorem lt32 (t : Fin cfg0.N) : t.val < 32 := lt_of_lt_of_eq t.isLt (show cfg0.N = 32 from N_0)

/-- The block indices of the tokens' window. -/
theorem index0 : ∀ t : Fin cfg0.N, win0_0.index t (0 : Fin 2) = t.val ∧ win0_0.index t (1 : Fin 2) = 0 :=
  (by decide +kernel : ∀ t : Fin grid0.N, _)

/-- Point `t`'s block of tokens: rows `1024 t` on. -/
theorem blk_x (t : Fin cfg0.N) (r : Fin 1024) (k : Fin 768) :
    iblk m c 0 t (ix2 r k) = argX m c (tok t.val (lt32 t) r) k := by
  obtain ⟨e0, e1⟩ := index0 t
  show V m c main_arg0 (((cfg0.win 0).blk t).view.emb (ix2 r k)) = _
  rw [V_main_arg0]
  have hb0 : (((cfg0.win 0).blk t).view.emb (ix2 r k) 0).val = win0_0.index t (0 : Fin 2) * 1024 + 1 * r.val := rfl
  have hb1 : (((cfg0.win 0).blk t).view.emb (ix2 r k) 1).val = win0_0.index t (1 : Fin 2) * 768 + 1 * k.val := rfl
  refine congrArg (m ((c : Thread nD τ).loc main_arg0)) (funext fun a => ?_)
  match a with
  | ⟨0, _⟩ => exact Fin.ext (by show _ = 1024 * t.val + r.val; rw [show ((⟨0, by decide⟩ : Fin 2)) = 0 from rfl]; rw [hb0, e0]; ring)
  | ⟨1, _⟩ => exact Fin.ext (by show _ = k.val; rw [show ((⟨1, by decide⟩ : Fin 2)) = 1 from rfl]; rw [hb1, e1]; ring)

/-- The block indices of the window of the router's weights: always the one block. -/
theorem index1 : ∀ t : Fin cfg0.N, win0_1.index t (0 : Fin 2) = 0 ∧ win0_1.index t (1 : Fin 2) = 0 :=
  (by decide +kernel : ∀ t : Fin grid0.N, _)

/-- Point `t`'s block of the router's weights is the whole array. -/
theorem blk_ws (t : Fin cfg0.N) (k : Fin 768) (e : Fin 64) : iblk m c 1 t (ix2 k e) = argWs m c k e := by
  obtain ⟨e0, e1⟩ := index1 t
  have hb0 : (((cfg0.win 1).blk t).view.emb (ix2 k e) 0).val = win0_1.index t (0 : Fin 2) * 768 + 1 * k.val := rfl
  have hb1 : (((cfg0.win 1).blk t).view.emb (ix2 k e) 1).val = win0_1.index t (1 : Fin 2) * 64 + 1 * e.val := rfl
  have hy : ((cfg0.win 1).blk t).view.emb (ix2 k e) = (ix2 k e : (⟨2, ![768, 64]⟩ : Shape).Idx) := funext fun a => by
    match a with
    | ⟨0, _⟩ => exact Fin.ext (hb0.trans (by rw [e0]; show 0 * 768 + 1 * k.val = k.val; ring))
    | ⟨1, _⟩ => exact Fin.ext (hb1.trans (by rw [e1]; show 0 * 64 + 1 * e.val = e.val; ring))
  show V m c main_arg1 (((cfg0.win 1).blk t).view.emb (ix2 k e)) = _
  rw [hy, V_main_arg1]

/-- The block indices of the window of the router's bias: always the one block. -/
theorem index2 : ∀ t : Fin cfg0.N, win0_2.index t (0 : Fin 2) = 0 ∧ win0_2.index t (1 : Fin 2) = 0 :=
  (by decide +kernel : ∀ t : Fin grid0.N, _)

/-- Point `t`'s block of the router's bias is the whole array. -/
theorem blk_bs (t : Fin cfg0.N) (z : Fin 1) (e : Fin 64) : iblk m c 2 t (ix2 z e) = argBs m c e := by
  obtain ⟨e0, e1⟩ := index2 t
  have hb0 : (((cfg0.win 2).blk t).view.emb (ix2 z e) 0).val = win0_2.index t (0 : Fin 2) * 1 + 1 * z.val := rfl
  have hb1 : (((cfg0.win 2).blk t).view.emb (ix2 z e) 1).val = win0_2.index t (1 : Fin 2) * 64 + 1 * e.val := rfl
  have hy : ((cfg0.win 2).blk t).view.emb (ix2 z e) = (ix2 z e : (⟨2, ![1, 64]⟩ : Shape).Idx) := funext fun a => by
    match a with
    | ⟨0, _⟩ => exact Fin.ext (hb0.trans (by rw [e0]; show 0 * 1 + 1 * z.val = z.val; ring))
    | ⟨1, _⟩ => exact Fin.ext (hb1.trans (by rw [e1]; show 0 * 64 + 1 * e.val = e.val; ring))
  show V m c main_v0 (((cfg0.win 2).blk t).view.emb (ix2 z e)) = _
  rw [hy, V_bs]
  pointwise

/-- The block indices of the window of the hidden layer's weights: always the one block. -/
theorem index3 : ∀ t : Fin cfg0.N, win0_3.index t (0 : Fin 2) = 0 ∧ win0_3.index t (1 : Fin 2) = 0 :=
  (by decide +kernel : ∀ t : Fin grid0.N, _)

/-- Point `t`'s block of the hidden layer's weights is the whole array. -/
theorem blk_w1 (t : Fin cfg0.N) (k : Fin 768) (f : Fin 3072) : iblk m c 3 t (ix2 k f) = argW1 m c k f := by
  obtain ⟨e0, e1⟩ := index3 t
  have hb0 : (((cfg0.win 3).blk t).view.emb (ix2 k f) 0).val = win0_3.index t (0 : Fin 2) * 768 + 1 * k.val := rfl
  have hb1 : (((cfg0.win 3).blk t).view.emb (ix2 k f) 1).val = win0_3.index t (1 : Fin 2) * 3072 + 1 * f.val := rfl
  have hy : ((cfg0.win 3).blk t).view.emb (ix2 k f) = (ix2 k f : (⟨2, ![768, 3072]⟩ : Shape).Idx) := funext fun a => by
    match a with
    | ⟨0, _⟩ => exact Fin.ext (hb0.trans (by rw [e0]; show 0 * 768 + 1 * k.val = k.val; ring))
    | ⟨1, _⟩ => exact Fin.ext (hb1.trans (by rw [e1]; show 0 * 3072 + 1 * f.val = f.val; ring))
  show V m c main_arg3 (((cfg0.win 3).blk t).view.emb (ix2 k f)) = _
  rw [hy, V_main_arg3]

/-- The block indices of the window of the hidden layer's bias: always the one block. -/
theorem index4 : ∀ t : Fin cfg0.N, win0_4.index t (0 : Fin 2) = 0 ∧ win0_4.index t (1 : Fin 2) = 0 :=
  (by decide +kernel : ∀ t : Fin grid0.N, _)

set_option maxRecDepth 65536 in
/-- Point `t`'s block of the hidden layer's bias is the whole array. -/
theorem blk_b1 (t : Fin cfg0.N) (z : Fin 1) (f : Fin 3072) : iblk m c 4 t (ix2 z f) = argB1 m c f := by
  obtain ⟨e0, e1⟩ := index4 t
  have hb0 : (((cfg0.win 4).blk t).view.emb (ix2 z f) 0).val = win0_4.index t (0 : Fin 2) * 1 + 1 * z.val := rfl
  have hb1 : (((cfg0.win 4).blk t).view.emb (ix2 z f) 1).val = win0_4.index t (1 : Fin 2) * 3072 + 1 * f.val := rfl
  have hy : ((cfg0.win 4).blk t).view.emb (ix2 z f) = (ix2 z f : (⟨2, ![1, 3072]⟩ : Shape).Idx) := funext fun a => by
    match a with
    | ⟨0, _⟩ => exact Fin.ext (hb0.trans (by rw [e0]; show 0 * 1 + 1 * z.val = z.val; ring))
    | ⟨1, _⟩ => exact Fin.ext (hb1.trans (by rw [e1]; show 0 * 3072 + 1 * f.val = f.val; ring))
  show V m c main_v1 (((cfg0.win 4).blk t).view.emb (ix2 z f)) = _
  rw [hy, V_b1]
  pointwise

/-- The block indices of the window of the output layer's weights: always the one block. -/
theorem index5 : ∀ t : Fin cfg0.N, win0_5.index t (0 : Fin 2) = 0 ∧ win0_5.index t (1 : Fin 2) = 0 :=
  (by decide +kernel : ∀ t : Fin grid0.N, _)

/-- Point `t`'s block of the output layer's weights is the whole array. -/
theorem blk_w2 (t : Fin cfg0.N) (f : Fin 3072) (j : Fin 768) : iblk m c 5 t (ix2 f j) = argW2 m c f j := by
  obtain ⟨e0, e1⟩ := index5 t
  have hb0 : (((cfg0.win 5).blk t).view.emb (ix2 f j) 0).val = win0_5.index t (0 : Fin 2) * 3072 + 1 * f.val := rfl
  have hb1 : (((cfg0.win 5).blk t).view.emb (ix2 f j) 1).val = win0_5.index t (1 : Fin 2) * 768 + 1 * j.val := rfl
  have hy : ((cfg0.win 5).blk t).view.emb (ix2 f j) = (ix2 f j : (⟨2, ![3072, 768]⟩ : Shape).Idx) := funext fun a => by
    match a with
    | ⟨0, _⟩ => exact Fin.ext (hb0.trans (by rw [e0]; show 0 * 3072 + 1 * f.val = f.val; ring))
    | ⟨1, _⟩ => exact Fin.ext (hb1.trans (by rw [e1]; show 0 * 768 + 1 * j.val = j.val; ring))
  show V m c main_arg5 (((cfg0.win 5).blk t).view.emb (ix2 f j)) = _
  rw [hy, V_main_arg5]

/-- The block indices of the window of the output layer's bias: always the one block. -/
theorem index6 : ∀ t : Fin cfg0.N, win0_6.index t (0 : Fin 2) = 0 ∧ win0_6.index t (1 : Fin 2) = 0 :=
  (by decide +kernel : ∀ t : Fin grid0.N, _)

/-- Point `t`'s block of the output layer's bias is the whole array. -/
theorem blk_b2 (t : Fin cfg0.N) (z : Fin 1) (j : Fin 768) : iblk m c 6 t (ix2 z j) = argB2 m c j := by
  obtain ⟨e0, e1⟩ := index6 t
  have hb0 : (((cfg0.win 6).blk t).view.emb (ix2 z j) 0).val = win0_6.index t (0 : Fin 2) * 1 + 1 * z.val := rfl
  have hb1 : (((cfg0.win 6).blk t).view.emb (ix2 z j) 1).val = win0_6.index t (1 : Fin 2) * 768 + 1 * j.val := rfl
  have hy : ((cfg0.win 6).blk t).view.emb (ix2 z j) = (ix2 z j : (⟨2, ![1, 768]⟩ : Shape).Idx) := funext fun a => by
    match a with
    | ⟨0, _⟩ => exact Fin.ext (hb0.trans (by rw [e0]; show 0 * 1 + 1 * z.val = z.val; ring))
    | ⟨1, _⟩ => exact Fin.ext (hb1.trans (by rw [e1]; show 0 * 768 + 1 * j.val = j.val; ring))
  show V m c main_v2 (((cfg0.win 6).blk t).view.emb (ix2 z j)) = _
  rw [hy, V_b2]
  pointwise

/-- The expert each token is sent to. -/
abbrev R : Fin 32768 → Fin 64 := route (argX m c) (argWs m c) (argBs m c)

/-- The rows of point `t`'s block are the tokens'. -/
theorem row_x (t : Fin cfg0.N) (r : Fin 1024) : rowOf (iblk m c 0 t) r = argX m c (tok t.val (lt32 t) r) :=
  funext fun k => blk_x m c t r k

/-- The router's weights, as the block's rows. -/
theorem row_ws (t : Fin cfg0.N) : rowOf (iblk m c 1 t) = argWs m c := funext fun k => funext fun e => blk_ws m c t k e

/-- The router's bias, as the block's row. -/
theorem row_bs (t : Fin cfg0.N) : rowOf (iblk m c 2 t) 0 = argBs m c := funext fun e => blk_bs m c t 0 e

/-- The hidden layer's weights, as the block's rows. -/
theorem row_w1 (t : Fin cfg0.N) : rowOf (iblk m c 3 t) = argW1 m c := funext fun k => funext fun f => blk_w1 m c t k f

/-- The hidden layer's bias, as the block's row. -/
theorem row_b1 (t : Fin cfg0.N) : rowOf (iblk m c 4 t) 0 = argB1 m c := funext fun f => blk_b1 m c t 0 f

/-- The output layer's weights, as the block's rows. -/
theorem row_w2 (t : Fin cfg0.N) : rowOf (iblk m c 5 t) = argW2 m c := funext fun f => funext fun j => blk_w2 m c t f j

/-- The output layer's bias, as the block's row. -/
theorem row_b2 (t : Fin cfg0.N) : rowOf (iblk m c 6 t) 0 = argB2 m c := funext fun j => blk_b2 m c t 0 j

/-- The expert of a block's row is its token's. -/
theorem expert_eq (t : Fin cfg0.N) (r : Fin 1024) :
    expert (iblk m c 0 t) (iblk m c 1 t) (iblk m c 2 t) r = R m c (tok t.val (lt32 t) r) := by
  unfold expert
  show _ = first (prob (argX m c (tok t.val (lt32 t) r)) (argWs m c) (argBs m c))
  rw [row_x, row_ws, row_bs]

/-- The counts a point leaves, from the counts of the tokens before its block. -/
theorem counts_step (t : Fin cfg0.N) (v : Vec Ideal S1x64 .f32)
    (hv : ∀ e : Fin 64, v (ix2 0 e) = ((seen (R m c) (1024 * t.val) e : ℕ) : EReal)) (e : Fin 64) :
    outCounts (iblk m c 0 t) (iblk m c 1 t) (iblk m c 2 t) v (ix2 0 e)
      = ((seen (R m c) (1024 * (t.val + 1)) e : ℕ) : EReal) := by
  unfold outCounts
  rw [counts_apply, hv, seen_succ _ _ (lt32 t), Nat.cast_add]
  unfold Block.load
  simp only [expert_eq]

/-- The output block a point leaves, from the counts of the tokens before its block: the specification's rows. -/
theorem block_step (t : Fin cfg0.N) (v : Vec Ideal S1x64 .f32)
    (hv : ∀ e : Fin 64, v (ix2 0 e) = ((seen (R m c) (1024 * t.val) e : ℕ) : EReal)) (r : Fin 1024) (j : Fin 768) :
    outBlock (iblk m c 0 t) (iblk m c 1 t) (iblk m c 2 t) (iblk m c 3 t) (iblk m c 4 t) (iblk m c 5 t) (iblk m c 6 t) v (ix2 r j)
      = out (argX m c) (argWs m c) (argBs m c) (argW1 m c) (argB1 m c) (argW2 m c) (argB2 m c) (tok t.val (lt32 t) r) j := by
  unfold outBlock out
  rw [block_apply _ _ _ _ _ _ _ (seen (R m c) (1024 * t.val)) v hv, place_tok, row_x, row_ws, row_bs, row_w1, row_b1, row_w2, row_b2]
  unfold before
  simp only [expert_eq]
  rw [blk_x]

/-- After point `n`: the carried counts are those of the tokens below the next block, the output block is the specification's. -/
theorem sweep : ∀ (n : ℕ) (hn : n < cfg0.N),
    (∀ e : Fin 64, (outsAt0 m c n hn).2 (ix2 0 e) = ((seen (R m c) (1024 * (n + 1)) e : ℕ) : EReal))
    ∧ ∀ (r : Fin 1024) (j : Fin 768), (outsAt0 m c n hn).1 (ix2 r j)
        = out (argX m c) (argWs m c) (argBs m c) (argW1 m c) (argB1 m c) (argW2 m c) (argB2 m c) (tok n (lt32 ⟨n, hn⟩) r) j
  | 0, hn => by
    have h0 : ∀ e : Fin 64, k0_pay2 (F := Ideal) (ix2 0 e) = ((seen (R m c) (1024 * (⟨0, hn⟩ : Fin cfg0.N).val) e : ℕ) : EReal) := fun e => by
      rw [zeros_apply]; show _ = ((seen (R m c) (1024 * 0) e : ℕ) : EReal); rw [Nat.mul_zero, seen_zero]
    rw [outsAt0_zero, stAt0_A m c ⟨0, hn⟩ _ (Nat.zero_mod _)]
    refine ⟨fun e => ?_, fun r j => ?_⟩
    · rw [counts_first]; exact counts_step m c ⟨0, hn⟩ _ h0 e
    · rw [out_first]; exact block_step m c ⟨0, hn⟩ _ h0 r j
  | n + 1, hn => by
    have ih := (sweep n (Nat.lt_of_succ_lt hn)).1
    have h32 := lt32 ⟨n + 1, hn⟩
    have hB : ¬(⟨n + 1, hn⟩ : Fin cfg0.N).val % 32 = 0 := by
      show ¬(n + 1) % 32 = 0
      have : n + 1 < 32 := h32
      omega
    rw [outsAt0_succ, stAt0_B m c ⟨n + 1, hn⟩ _ hB]
    refine ⟨fun e => ?_, fun r j => ?_⟩
    · rw [counts_later]; exact counts_step m c ⟨n + 1, hn⟩ _ ih e
    · rw [out_later]; exact block_step m c ⟨n + 1, hn⟩ _ ih r j

/-- The result array after the run holds the specification's rows. -/
theorem result_apply (t : Fin 32768) (j : Fin 768) :
    G7 m c (ix2 t j) = out (argX m c) (argWs m c) (argBs m c) (argW1 m c) (argB1 m c) (argW2 m c) (argB2 m c) t j := by
  have ht := t.isLt
  have hj := j.isLt
  have hp : pt7Of (ix2 t j) = t.val / 1024 := by
    show 1 * (t.val / 1024 - 0) + 1 * (j.val / 768 - 0) = _
    omega
  have hlt : pt7Of (ix2 t j) < cfg0.N := by
    rw [hp, show cfg0.N = 32 from N_0]; omega
  unfold G7
  rw [dif_pos hlt, ← outsAt0_sweep m c (pt7Of (ix2 t j)) hlt]
  have hl : loc7Of (ix2 t j) = ix2 (⟨t.val % 1024, Nat.mod_lt _ (by decide)⟩ : Fin 1024) j := funext fun a => by
    match a with
    | ⟨0, _⟩ => rfl
    | ⟨1, _⟩ => exact Fin.ext (Nat.mod_eq_of_lt hj)
  rw [hl, (sweep m c _ hlt).2]
  congr 1
  apply Fin.ext
  show 1024 * pt7Of (ix2 t j) + t.val % 1024 = t.val
  rw [hp]; omega

end Cert.Moe.KernelValue

end
-- ==== Proof.RefRouter.lean ====
/- The reference's router read at one entry: its probabilities, the greatest of them, the expert chosen. -/
module

public import proofs.«01_k».proof.Proof.RefStages
public import proofs.«01_k».proof.Proof.Spec

@[expose] public section

noncomputable section

namespace Cert.Moe.Ref

open Cert.ReferenceIdeal Cert.ReferenceIdeal.Gen Idealize.ShloMosaic

set_option maxRecDepth 65536 in
/-- The scores read at a token and an expert. -/
theorem logits_apply (x : Arr Ideal S32768x768 .f32) (ws : Arr Ideal S768x64 .f32) (bs : Arr Ideal S64 .f32)
    (t : Fin 32768) (e : Fin 64) :
    logits x ws bs (ix2 t e) = logit (fun k => x (ix2 t k)) (fun k e => ws (ix2 k e)) (fun e => bs (ix1 e)) e := by
  pointwise [logits]
  rfl

set_option maxRecDepth 65536 in
/-- The exponentials read at a token and an expert. -/
theorem expo_apply (l : Arr Ideal S32768x64 .f32) (t : Fin 32768) (e : Fin 64) :
    expo l (ix2 t e) = Ideal.exp (l (ix2 t e) - top fun e' => l (ix2 t e')) := by
  pointwise [expo]
  show Ideal.exp (l (ix2 t e) - max (Ideal.ofBits .f32 0xFF800000#32)
    (Finset.univ.fold max (Ideal.ofBits .f32 0xFF800000#32) fun e' => l (ix2 t e'))) = _
  rw [ofBits_negInf, max_eq_right bot_le]
  rfl

set_option maxRecDepth 65536 in
/-- The exponentials over their sum, read at a token and an expert. -/
theorem probs_apply (v : Arr Ideal S32768x64 .f32) (t : Fin 32768) (e : Fin 64) :
    probs v (ix2 t e) = Ideal.div (v (ix2 t e)) (∑ e' : Fin 64, v (ix2 t e')) := by
  pointwise [probs]

set_option maxRecDepth 65536 in
/-- The greatest probability of a row. -/
theorem best_apply (p : Arr Ideal S32768x64 .f32) (t : Fin 32768) :
    best p (ix1 t) = top fun e => p (ix2 t e) := by
  pointwise [best]
  show (Finset.univ.fold max (Ideal.ofBits .f32 0xFF800000#32) fun e => p (ix2 t e)) = _
  rw [ofBits_negInf]
  rfl

/-- The reference's probabilities are those of the specification. -/
theorem probsOf_apply (x : Arr Ideal S32768x768 .f32) (ws : Arr Ideal S768x64 .f32) (bs : Arr Ideal S64 .f32)
    (t : Fin 32768) (e : Fin 64) :
    probsOf x ws bs (ix2 t e) = prob (fun k => x (ix2 t k)) (fun k e => ws (ix2 k e)) (fun e => bs (ix1 e)) e := by
  rw [probsOf, probs_apply]
  simp only [expo_apply, logits_apply]
  rfl

end Cert.Moe.Ref

end
-- ==== Proof.Argmax.lean ====
/- The reference's arg-max over pairs of a value and an index: it keeps the greater value, of equal values the lesser index. -/
module

public import proofs.«01_k».proof.Proof.RefStages
public import proofs.«01_k».proof.Proof.Spec

@[expose] public section

noncomputable section

namespace Cert.Moe.Ref

open Cert.ReferenceIdeal Cert.ReferenceIdeal.Gen Idealize.ShloMosaic

/-- Pair `a` is at least as good as pair `b`: its value is greater, or equal with an index no greater. -/
def Beats (a b : EReal × BitVec 32) : Prop := b.1 < a.1 ∨ (b.1 = a.1 ∧ a.2.toInt ≤ b.2.toInt)

/-- A pair is as good as itself. -/
theorem Beats.refl (a : EReal × BitVec 32) : Beats a a := .inr ⟨rfl, le_rfl⟩

/-- The comparison is transitive. -/
theorem Beats.trans {a b c : EReal × BitVec 32} (h : Beats a b) (h' : Beats b c) : Beats a c := by
  rcases h with h | ⟨h, i⟩ <;> rcases h' with h' | ⟨h', i'⟩
  · exact .inl (h'.trans h)
  · exact .inl (h' ▸ h)
  · exact .inl (h ▸ h')
  · exact .inr ⟨h'.trans h, i.trans i'⟩

/-- The reducer keeps the first pair when its value is greater, or equal with a lesser index; else the second. -/
theorem reducer_apply (a b : EReal) (i j : BitVec 32) :
    reducer_argmax_f32_i32 (F := Ideal) (a, i) (b, j)
      = if b < a ∨ (a = b ∧ i.toInt < j.toInt) then (a, i) else (b, j) := by
  have e : reducer_argmax_f32_i32 (F := Ideal) (a, i) (b, j)
    = (Scalar.select (IntOp.ori (Ideal.cmp .ogt a b) (Ideal.cmp .une a a)) a b,
       Scalar.select (IntOp.ori (IntOp.ori (Ideal.cmp .ogt a b) (Ideal.cmp .une a a)) (IntOp.andi (Ideal.cmp .oeq a b) (IntOp.cmpi .slt i j))) i j) := rfl
  rw [e]
  have h1 : Ideal.cmp .ogt a b = BitVec.ofBool (decide (b < a)) := rfl
  have h2 : Ideal.cmp .une a a = 0#1 := by
    show BitVec.ofBool (decide (a ≠ a)) = _
    rw [decide_eq_false (by simp)]; rfl
  have h3 : Ideal.cmp .oeq a b = BitVec.ofBool (decide (a = b)) := rfl
  have h4 : IntOp.cmpi .slt i j = BitVec.ofBool (decide (i.toInt < j.toInt)) := rfl
  rw [h1, h2, h3, h4]
  by_cases p : b < a
  · rw [if_pos (.inl p), decide_eq_true p, decide_eq_false p.ne']
    cases decide (i.toInt < j.toInt) <;> rfl
  · rw [decide_eq_false p]
    by_cases q : a = b
    · subst q
      by_cases r : i.toInt < j.toInt
      · rw [if_pos (.inr ⟨rfl, r⟩), decide_eq_true r, decide_eq_true rfl]; rfl
      · rw [if_neg (by simp [r]), decide_eq_false r, decide_eq_true rfl]; rfl
    · rw [if_neg (by simp [p, q]), decide_eq_false q]
      cases decide (i.toInt < j.toInt) <;> rfl

/-- The reducer returns one of its two pairs, as good as both. -/
theorem reducer_spec (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨a, i⟩ := a
  obtain ⟨b, j⟩ := b
  have e : reducer_argmax_f32_i32 (F := Ideal) (a, i) (b, j)
      = if b < a ∨ (a = b ∧ i.toInt < j.toInt) then (a, i) else (b, j) := reducer_apply a b i j
  rw [e]
  split
  · next h =>
    refine ⟨.inl rfl, Beats.refl _, ?_⟩
    rcases h with h | ⟨h, h'⟩
    · exact .inl h
    · exact .inr ⟨h.symm, h'.le⟩
  · next h =>
    refine ⟨.inr rfl, ?_, Beats.refl _⟩
    rcases lt_trichotomy a b with hab | hab | hab
    · exact .inl hab
    · exact .inr ⟨hab, not_lt.mp fun q => h (.inr ⟨hab, q⟩)⟩
    · exact absurd (.inl hab) h

/-- A fold of the reducer returns one of the pairs it met, as good as them all. -/
theorem foldl_reducer (l : List (EReal × BitVec 32)) (z : EReal × BitVec 32) :
    l.foldl (reducer_argmax_f32_i32 (F := Ideal)) z ∈ z :: l
      ∧ ∀ q ∈ z :: l, Beats (l.foldl (reducer_argmax_f32_i32 (F := Ideal)) z) q := by
  induction l generalizing z with
  | nil => exact ⟨List.mem_cons_self, fun q hq => by rw [List.mem_singleton.mp hq]; exact Beats.refl z⟩
  | cons a l ih =>
    obtain ⟨h, h'⟩ := ih (reducer_argmax_f32_i32 (F := Ideal) z a)
    obtain ⟨c, cz, ca⟩ := reducer_spec z a
    rw [List.foldl_cons]
    refine ⟨?_, fun q hq => ?_⟩
    · rcases List.mem_cons.mp h with h | h
      · rw [h]
        rcases c with c | c <;> rw [c] <;> simp
      · exact List.mem_cons_of_mem _ (List.mem_cons_of_mem _ h)
    · have hb := h' _ List.mem_cons_self
      rcases List.mem_cons.mp hq with rfl | hq
      · exact hb.trans cz
      · rcases List.mem_cons.mp hq with rfl | hq
        · exact hb.trans ca
        · exact h' q (List.mem_cons_of_mem _ hq)

/-- The pairs the arg-max of row `t` meets: the row's values, each with its column. -/
theorem mem_fiber (p : Arr Ideal S32768x64 .f32) (t : Fin 32768) (q : EReal × BitVec 32) :
    q ∈ Host.argReduceFiber p (iotaInDim S32768x64 32 1) reducesTo_S32768x64_S32768_d1 (ix1 t)
      ↔ ∃ e : Fin 64, q = (p (ix2 t e), BitVec.ofNat 32 e.val) := by
  rw [Host.argReduceFiber, List.mem_map]
  constructor
  · rintro ⟨n, hn, rfl⟩
    have hd := of_decide_eq_true (List.mem_filter.mp hn).2
    obtain ⟨k, hk⟩ := (Shape.ReducesTo.fiber_r2_a1 reducesTo_S32768x64_S32768_d1 (ix1 t) _).mp hd
    exact ⟨k, by rw [← hk]; rfl⟩
  · rintro ⟨e, rfl⟩
    refine ⟨S32768x64.rowMajor (ix2 t e), List.mem_filter.mpr ⟨List.mem_finRange _, decide_eq_true ?_⟩, ?_⟩
    · rw [Equiv.symm_apply_apply]
      exact (Shape.ReducesTo.fiber_r2_a1 reducesTo_S32768x64_S32768_d1 (ix1 t) _).mpr ⟨e, rfl⟩
    · rw [Equiv.symm_apply_apply]; rfl

/-- The arg-max of row `t` is the first expert of the row's greatest value. -/
theorem routes_apply (p : Arr Ideal S32768x64 .f32) (t : Fin 32768) :
    routes p (ix1 t) = BitVec.ofNat 32 (first fun e => p (ix2 t e)).val := by
  have hlt : ∀ e : Fin 64, (BitVec.ofNat 32 e.val).toInt = (e.val : ℤ) := by decide
  rw [routes, Ideal.argReduce_eq_reduce2, Host.reduce2_eq_foldl_fiber]
  set z : EReal × BitVec 32 := (constant (F := Ideal) S_ .f32 0xFF800000#32 (Shape.Idx.first h_S_), constantI S_ 32 0#32 (Shape.Idx.first h_S_)) with hz
  have hz' : z = (⊥, 0#32) := by rw [hz]; exact Prod.ext ofBits_negInf rfl
  obtain ⟨hm, hb⟩ := foldl_reducer (Host.argReduceFiber p (iotaInDim S32768x64 32 1) reducesTo_S32768x64_S32768_d1 (ix1 t)) z
  generalize (Host.argReduceFiber p (iotaInDim S32768x64 32 1) reducesTo_S32768x64_S32768_d1 (ix1 t)).foldl
    (reducer_argmax_f32_i32 (F := Ideal)) z = m at hm hb ⊢
  have hall : ∀ e : Fin 64, Beats m (p (ix2 t e), BitVec.ofNat 32 e.val) := fun e =>
    hb _ (List.mem_cons_of_mem _ ((mem_fiber p t _).mpr ⟨e, rfl⟩))
  have key : ∀ e : Fin 64, m = (p (ix2 t e), BitVec.ofNat 32 e.val) → m.2 = BitVec.ofNat 32 (first fun e => p (ix2 t e)).val := by
    rintro e rfl
    have htop : p (ix2 t e) = top fun e => p (ix2 t e) := by
      refine le_antisymm (le_top (fun e => p (ix2 t e)) e) ?_
      obtain ⟨e', h'⟩ := exists_eq_top fun e => p (ix2 t e)
      rw [← h']
      rcases hall e' with h | ⟨h, -⟩
      · exact h.le
      · exact h.le
    rw [← eq_first (fun e => p (ix2 t e)) e htop fun e' h' => ?_]
    rcases hall e' with h | ⟨-, h⟩
    · exact absurd (h'.trans htop.symm) h.ne
    · rw [hlt, hlt] at h
      exact Fin.le_def.mpr (by exact_mod_cast h)
  rcases List.mem_cons.mp hm with h | h
  · refine key 0 ?_
    rw [h, hz']
    have := hall 0
    rw [h, hz'] at this
    rcases this with h | ⟨h, -⟩
    · exact absurd h not_lt_bot
    · exact Prod.ext h.symm rfl
  · obtain ⟨e, he⟩ := (mem_fiber p t m).mp h
    exact key e he

end Cert.Moe.Ref

end
-- ==== Proof.RefWords.lean ====
/- The reference's stages on words, each read at one token. -/
module

public import proofs.«01_k».proof.Proof.RefStages
public import proofs.«01_k».proof.Proof.Spec

@[expose] public section

noncomputable section

namespace Cert.Moe.Ref

open Cert.ReferenceIdeal Cert.ReferenceIdeal.Gen Idealize.ShloMosaic

set_option maxRecDepth 65536 in
/-- The one-hot array at a token and an expert: whether the token's expert is that one. -/
theorem oneHot_apply (r : Arr Ideal S32768 .i32) (t : Fin 32768) (e : Fin 64) :
    oneHot (F := Ideal) r (ix2 t e) = BitVec.setWidth 32 (IntOp.cmpi .eq (r (ix1 t)) (BitVec.ofNat 32 e.val)) := by
  pointwise [oneHot]

set_option maxRecDepth 65536 in
/-- The ranks at a token and an expert: the counts less one. -/
theorem ranks_apply (n : Arr Ideal S32768x64 .i32) (t : Fin 32768) (e : Fin 64) :
    ranks (F := Ideal) n (ix2 t e) = n (ix2 t e) - 1#32 := by
  pointwise [ranks]
  rfl

set_option maxRecDepth 65536 in
/-- The index of a token: its expert, the negative ones counted from the end. -/
theorem wrapped_apply (r : Arr Ideal S32768 .i32) (t : Fin 32768) :
    wrapped (F := Ideal) (column (F := Ideal) r) (ix3 t 0 0)
      = Scalar.select (IntOp.cmpi .slt (r (ix1 t)) 0#32) (IntOp.addi (r (ix1 t)) 64#32) (r (ix1 t)) := by
  pointwise [wrapped, column]

set_option maxRecDepth 65536 in
/-- The row of positions at a token. -/
theorem positions_apply (q : Arr Ideal S32768x1 .i32) (t : Fin 32768) :
    positions (F := Ideal) q (ix1 t) = q (ix2 t 0) := by
  pointwise [positions]

set_option maxRecDepth 65536 in
/-- Whether a token is kept. -/
theorem kept_apply (a : Arr Ideal S32768 .i32) (t : Fin 32768) :
    kept (F := Ideal) a (ix1 t) = IntOp.cmpi .slt (a (ix1 t)) 640#32 := by
  pointwise [kept]

set_option maxRecDepth 65536 in
/-- The slot of a token. -/
theorem slots_apply (r a : Arr Ideal S32768 .i32) (t : Fin 32768) :
    slots (F := Ideal) r a (ix1 t) = IntOp.addi (IntOp.muli (r (ix1 t)) 640#32) (IntOp.minsi (a (ix1 t)) 639#32) := by
  pointwise [slots]

set_option maxRecDepth 65536 in
/-- The target of a token. -/
theorem targets_apply (b : Arr Ideal S32768 .i1) (s : Arr Ideal S32768 .i32) (t : Fin 32768) :
    targets (F := Ideal) b s (ix1 t) = Scalar.select (b (ix1 t)) (s (ix1 t)) 40960#32 := by
  pointwise [targets]
  rfl

set_option maxRecDepth 65536 in
/-- The index of a token's target. -/
theorem targetCol_apply (d : Arr Ideal S32768 .i32) (t : Fin 32768) :
    targetCol (F := Ideal) d (ix2 t 0)
      = Scalar.select (IntOp.cmpi .slt (d (ix1 t)) 0#32) (IntOp.addi (d (ix1 t)) 40960#32) (d (ix1 t)) := by
  pointwise [targetCol]

set_option maxRecDepth 65536 in
/-- The index of a token's slot. -/
theorem slotCol_apply (d : Arr Ideal S32768 .i32) (t : Fin 32768) :
    slotCol (F := Ideal) d (ix2 t 0)
      = Scalar.select (IntOp.cmpi .slt (d (ix1 t)) 0#32) (IntOp.addi (d (ix1 t)) 40960#32) (d (ix1 t)) := by
  pointwise [slotCol]

end Cert.Moe.Ref

end
-- ==== Proof.CumSum.lean ====
/- A window sum down the columns of an array of words, and an entry picked from each row by an index. -/
module

public import proofs.«01_k».proof.Proof.Gen.ReferenceIdeal
public import Idealize.ShloMosaic.Lib.Pointwise
public import Idealize.ShloMosaic.Lib.ShapeFacts
public import Idealize.ShloMosaic.Lib.Routing.OpsSet
public import Idealize.ShloMosaic.Lib.Routing.OpsPair

@[expose] public section

noncomputable section

namespace Cert.Moe.Ref

open Idealize.ShloMosaic Idealize.ShloMosaic.Routing

/-- The running sum down the columns, a window of all rows padded above by one less: where row `i` of a column holds `f i`, its
    row `j` holds `f 0 + … + f j`. -/
theorem column_sum {N Nm1 C : Nat} (hN : Nm1 + 1 = N) (x : IVec (shape2 N C) 32) (c : Fin C) (f : Nat → Nat)
    (hx : ∀ i : Fin N, x (ix2 i c) = BitVec.ofNat 32 (f i.val)) (u : Shape) (init : IVec u 32) (hu : 0 < u.numel)
    (hinit : init (Shape.Idx.first hu) = 0#32)
    (h : (shape2 N C).ReduceWindows (![N, 1] : Fin 2 → Nat) ![1, 1] ![Nm1, 0] ![0, 0] (shape2 N C)) (j : Fin N) :
    Host.reduceWindow IntOp.addi ![N, 1] ![1, 1] ![Nm1, 0] ![0, 0] x init h hu (ix2 j c)
      = BitVec.ofNat 32 ((List.range (j.val + 1)).map f).sum := by
  subst hN
  have hnum : (shape2 (Nm1 + 1) 1).numel = Nm1 + 1 := by
    exact (Shape.numel_rank2 ![Nm1 + 1, 1]).trans (Nat.mul_one _)
  have hj := j.isLt
  have hc := c.isLt
  unfold Host.reduceWindow
  refine (foldl_addi_ofNat _ _ (fun n => if Nm1 ≤ j.val + n.val then f (j.val + n.val - Nm1) else 0) (fun n _ => ?_) _ 0
    hinit).trans ?_
  · have hn : n.val < Nm1 + 1 := (n.cast hnum).isLt
    have hs := symm22 (A := Nm1 + 1) (B := 1) n (by rw [Nat.div_one]; exact hn) (by rw [Nat.mod_one]; exact Nat.one_pos)
    have hw0 : ((shape2 (Nm1 + 1) 1).rowMajor.symm n 0).val = n.val := by
      rw [hs]; exact Nat.div_one _
    have hw1 : ((shape2 (Nm1 + 1) 1).rowMajor.symm n 1).val = 0 := by
      rw [hs]; exact Nat.mod_one _
    dsimp only
    split
    · next hin =>
      have h0 := hin 0
      change Nm1 ≤ j.val * 1 + ((shape2 (Nm1 + 1) 1).rowMajor.symm n 0).val
        ∧ j.val * 1 + ((shape2 (Nm1 + 1) 1).rowMajor.symm n 0).val - Nm1 < Nm1 + 1 at h0
      rw [hw0] at h0
      rw [if_pos (by omega)]
      refine (congrArg x (funext fun a => Fin.ext ?_)).trans (hx ⟨j.val + n.val - Nm1, by omega⟩)
      match a with
      | ⟨0, _⟩ =>
        show j.val * 1 + ((shape2 (Nm1 + 1) 1).rowMajor.symm n 0).val - Nm1 = j.val + n.val - Nm1
        rw [hw0, Nat.mul_one]
      | ⟨1, _⟩ =>
        show c.val * 1 + ((shape2 (Nm1 + 1) 1).rowMajor.symm n 1).val - 0 = c.val
        rw [hw1]; omega
    · next hin =>
      rw [if_neg fun hle => hin fun a => by
        match a with
        | ⟨0, _⟩ =>
          show Nm1 ≤ j.val * 1 + ((shape2 (Nm1 + 1) 1).rowMajor.symm n 0).val
            ∧ j.val * 1 + ((shape2 (Nm1 + 1) 1).rowMajor.symm n 0).val - Nm1 < Nm1 + 1
          rw [hw0]; omega
        | ⟨1, _⟩ =>
          show 0 ≤ c.val * 1 + ((shape2 (Nm1 + 1) 1).rowMajor.symm n 1).val
            ∧ c.val * 1 + ((shape2 (Nm1 + 1) 1).rowMajor.symm n 1).val - 0 < C
          rw [hw1]; omega]
      exact hinit
  · rw [Nat.zero_add, map_finRange_val _ (fun w => if Nm1 ≤ j.val + w then f (j.val + w - Nm1) else 0)]
    exact congrArg (BitVec.ofNat 32) ((congrArg (fun M => ((List.range M).map fun w => if Nm1 ≤ j.val + w then f (j.val + w - Nm1) else 0).sum)
      hnum).trans (sum_window f Nm1 j.val (by omega)))

/-- An entry gathered from each row: where the row's index word is a column's number, the entry of that column. -/
theorem gather_entry {α : Type} (x : Cert.ReferenceIdeal.S32768x64.Idx → α) (i : IVec Cert.ReferenceIdeal.S32768x1x1 32)
    (t : Fin 32768) (e : Fin 64) (h : i (ix3 t (0 : Fin 1) (0 : Fin 1)) = BitVec.ofNat 32 e.val) :
    Host.gather Cert.ReferenceIdeal.gather_S32768x64_S32768x1x1_S32768x1_n_1_0_0_1_2_11 x i (ix2 t (0 : Fin 1)) = x (ix2 t e) := by
  unfold Host.gather
  refine congrArg x (funext fun a => Fin.ext ?_)
  show GatherDims.start Cert.ReferenceIdeal.gather_S32768x64_S32768x1x1_S32768x1_n_1_0_0_1_2_11 (ix2 t (0 : Fin 1)) i a
      + GatherDims.batchCoord Cert.ReferenceIdeal.gather_S32768x64_S32768x1x1_S32768x1_n_1_0_0_1_2_11 (ix2 t (0 : Fin 1)) a
      + GatherDims.offCoord Cert.ReferenceIdeal.gather_S32768x64_S32768x1x1_S32768x1_n_1_0_0_1_2_11 (ix2 t (0 : Fin 1)) a = _
  have h01 : a = (0 : Fin 2) ∨ a = (1 : Fin 2) := by
    match a with
    | ⟨0, _⟩ => exact .inl rfl
    | ⟨1, _⟩ => exact .inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ Cert.ReferenceIdeal.gather_S32768x64_S32768x1x1_S32768x1_n_1_0_0_1_2_11.operandBatchingDims from
      List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ Cert.ReferenceIdeal.gather_S32768x64_S32768x1x1_S32768x1_n_1_0_0_1_2_11.startIndexMap from
      List.mem_singleton.mpr rfl)]
    have hsi : Cert.ReferenceIdeal.gather_S32768x64_S32768x1x1_S32768x1_n_1_0_0_1_2_11.siIdx (ix2 t (0 : Fin 1))
        ⟨List.idxOf (1 : Fin 2) Cert.ReferenceIdeal.gather_S32768x64_S32768x1x1_S32768x1_n_1_0_0_1_2_11.startIndexMap,
          List.idxOf_lt_length_iff.2 (List.mem_singleton.mpr rfl)⟩ = ix3 t (0 : Fin 1) (0 : Fin 1) := by
      funext b; refine Fin.ext ?_
      match b with
      | ⟨0, _⟩ => rfl
      | ⟨1, _⟩ => rfl
      | ⟨2, _⟩ => rfl
    rw [hsi, h]
    have he := e.isLt
    have hi : (BitVec.ofNat 32 e.val).toInt = (e.val : ℤ) := (by decide : ∀ e : Fin 64, (BitVec.ofNat 32 e.val).toInt = (e.val : ℤ)) e
    rw [hi]
    show min e.val (64 - 1) = e.val
    omega

end Cert.Moe.Ref

end
-- ==== Proof.RefPick.lean ====
/- The two arrays the reference reads by index, each read at one token. -/
module

public import proofs.«01_k».proof.Proof.RefStages
public import proofs.«01_k».proof.Proof.Spec
public import proofs.«01_k».proof.Proof.CumSum
public import Idealize.ShloMosaic.Lib.Routing.Ops
public import Idealize.ShloMosaic.Lib.WordArith

@[expose] public section

noncomputable section

namespace Cert.Moe.Ref

open Cert.ReferenceIdeal Cert.ReferenceIdeal.Gen Idealize.ShloMosaic

/-- A word of a natural number below 2³¹, read signed, is that number. -/
theorem toInt_word (n : ℕ) (h : n < 2 ^ 31) : (BitVec.ofNat 32 n).toInt = n :=
  WordArith.toInt_ofNat_small n h

/-- An index word from zero to a bound passes the test that it is in range. -/
theorem in_range (a b : ℕ) (h : a ≤ b) (hb : b < 2 ^ 31) :
    IntOp.andi (IntOp.andi (IntOp.cmpi .sge (BitVec.ofNat 32 a) 0#32) (IntOp.cmpi .sle (BitVec.ofNat 32 a) (BitVec.ofNat 32 b))) 1#1
      = 1#1 := by
  have h1 : IntOp.cmpi .sge (BitVec.ofNat 32 a) 0#32 = 1#1 := by
    show BitVec.ofBool (decide ((0#32).toInt ≤ (BitVec.ofNat 32 a).toInt)) = 1#1
    rw [toInt_word a (by omega), decide_eq_true (by simp)]; rfl
  have h2 : IntOp.cmpi .sle (BitVec.ofNat 32 a) (BitVec.ofNat 32 b) = 1#1 := by
    show BitVec.ofBool (decide ((BitVec.ofNat 32 a).toInt ≤ (BitVec.ofNat 32 b).toInt)) = 1#1
    rw [toInt_word a (by omega), toInt_word b hb, decide_eq_true (by exact_mod_cast h)]; rfl
  rw [h1, h2]; rfl

set_option maxRecDepth 65536 in
/-- The rank picked for a token, where its index word is a column's number: the entry of that column. -/
theorem picked_apply (i : Arr Ideal S32768x1x1 .i32) (k : Arr Ideal S32768x64 .i32) (t : Fin 32768) (e : Fin 64)
    (h : i (ix3 t 0 0) = BitVec.ofNat 32 e.val) :
    picked (F := Ideal) i k (ix2 t 0) = k (ix2 t e) := by
  pointwise [picked]
  rw [Finset.univ_unique, Finset.fold_singleton]
  have hi : i (ix3 t 0 default) = BitVec.ofNat 32 e.val := h
  rw [hi, in_range e.val 63 (by have := e.isLt; omega) (by norm_num)]
  exact gather_entry k i t e h

set_option maxRecDepth 65536 in
/-- The row taken back for a token, where its index word is a slot's number: that slot's row. -/
theorem taken_apply (i : Arr Ideal S32768x1 .i32) (y : Arr Ideal S40960x768 .f32) (t : Fin 32768) (j : Fin 768) (s : Fin 40960)
    (h : i (ix2 t 0) = BitVec.ofNat 32 s.val) :
    taken i y (ix2 t j) = y (ix2 s j) := by
  pointwise [taken]
  rw [Finset.univ_unique, Finset.fold_singleton]
  have hi : i (ix2 t default) = BitVec.ofNat 32 s.val := h
  rw [hi, in_range s.val 40959 (by have := s.isLt; omega) (by norm_num)]
  have key := Routing.gather_row gather_S40960x768_S32768x1_S32768x768_1_0_n_n_0_1_1768 rfl rfl rfl rfl rfl y i t j s
    (by rw [← ix2_eq_valueIdx]; exact h) (by norm_num)
  rw [← ix2_eq_valueIdx, ← ix2_eq_valueIdx] at key
  exact key

end Cert.Moe.Ref

end
-- ==== Proof.RefCount.lean ====
/- The reference's ranks: the word it finds for a token is the token's place in its expert's queue. -/
module

public import proofs.«01_k».proof.Proof.RefWords
public import proofs.«01_k».proof.Proof.RefPick
public import proofs.«01_k».proof.Proof.Count

@[expose] public section

noncomputable section

namespace Cert.Moe.Ref

open Cert.ReferenceIdeal Cert.ReferenceIdeal.Gen Idealize.ShloMosaic

/-- Whether token number `i` is sent to expert `e`, as a number. -/
def sent (R : Fin 32768 → Fin 64) (e : Fin 64) (i : ℕ) : ℕ :=
  if h : i < 32768 then (if R ⟨i, h⟩ = e then 1 else 0) else 0

/-- One more token below the bound adds whether it is sent to the expert. -/
theorem seen_next (R : Fin 32768 → Fin 64) (e : Fin 64) (a : ℕ) (h : a < 32768) :
    seen R (a + 1) e = seen R a e + sent R e a := by
  rw [sent, dif_pos h, seen, seen]
  have hsplit : (Finset.univ.filter fun s : Fin 32768 => s.val < a + 1 ∧ R s = e)
      = (Finset.univ.filter fun s : Fin 32768 => s.val < a ∧ R s = e) ∪ (Finset.univ.filter fun s : Fin 32768 => s = ⟨a, h⟩ ∧ R s = e) := by
    ext s
    simp only [Finset.mem_union, Finset.mem_filter, Finset.mem_univ, true_and, Fin.ext_iff]
    constructor
    · rintro ⟨p, q⟩
      rcases Nat.lt_succ_iff_lt_or_eq.mp p with p | p
      · exact .inl ⟨p, q⟩
      · exact .inr ⟨p, q⟩
    · rintro (⟨p, q⟩ | ⟨p, q⟩)
      · exact ⟨Nat.lt_succ_of_lt p, q⟩
      · exact ⟨p ▸ Nat.lt_succ_self _, q⟩
  have hdis : Disjoint (Finset.univ.filter fun s : Fin 32768 => s.val < a ∧ R s = e)
      (Finset.univ.filter fun s : Fin 32768 => s = ⟨a, h⟩ ∧ R s = e) := by
    refine Finset.disjoint_left.mpr fun s p q => ?_
    have p' := (Finset.mem_filter.mp p).2.1
    have q' := congrArg Fin.val (Finset.mem_filter.mp q).2.1
    exact absurd p' (by rw [q']; exact Nat.lt_irrefl _)
  rw [hsplit, Finset.card_union_of_disjoint hdis]
  refine congrArg (_ + ·) ?_
  by_cases hR : R ⟨a, h⟩ = e
  · rw [if_pos hR]
    refine Finset.card_eq_one.mpr ⟨⟨a, h⟩, ?_⟩
    ext s
    simp only [Finset.mem_filter, Finset.mem_univ, true_and, Finset.mem_singleton]
    exact ⟨fun q => q.1, fun q => ⟨q, q ▸ hR⟩⟩
  · rw [if_neg hR]
    refine Finset.card_eq_zero.mpr (Finset.filter_eq_empty_iff.mpr fun s _ q => hR (q.1 ▸ q.2))

/-- The tokens below a bound sent to an expert, counted one by one. -/
theorem sum_sent (R : Fin 32768 → Fin 64) (e : Fin 64) (a : ℕ) (h : a ≤ 32768) :
    ((List.range a).map (sent R e)).sum = seen R a e := by
  induction a with
  | zero => rw [seen_zero]; rfl
  | succ a ih =>
    rw [List.range_succ, List.map_append, List.sum_append, ih (Nat.le_of_succ_le h), seen_next R e a h]
    rfl

/-- A place is below the number of tokens. -/
theorem place_lt (R : Fin 32768 → Fin 64) (t : Fin 32768) : place R t < 32768 := by
  have h : (Finset.univ.filter fun s : Fin 32768 => s < t ∧ R s = R t) ⊂ Finset.univ :=
    Finset.filter_ssubset.mpr ⟨t, Finset.mem_univ t, fun q => lt_irrefl t q.1⟩
  have h' := Finset.card_lt_card h
  rw [Finset.card_univ, Fintype.card_fin] at h'
  exact h'

/-- Of two tokens sent to one expert the later has the greater place. -/
theorem place_lt_place (R : Fin 32768 → Fin 64) (s t : Fin 32768) (h : R s = R t) (hst : s < t) : place R s < place R t := by
  refine Finset.card_lt_card ((Finset.ssubset_iff_of_subset ?_).mpr ⟨s, ?_, ?_⟩)
  · intro q hq
    have hq' := (Finset.mem_filter.mp hq).2
    exact Finset.mem_filter.mpr ⟨Finset.mem_univ q, hq'.1.trans hst, hq'.2.trans h⟩
  · exact Finset.mem_filter.mpr ⟨Finset.mem_univ s, hst, h⟩
  · exact fun hs => lt_irrefl s (Finset.mem_filter.mp hs).2.1

/-- Two tokens of one expert and one place are the same. -/
theorem eq_of_place (R : Fin 32768 → Fin 64) (s t : Fin 32768) (h : R s = R t) (hp : place R s = place R t) : s = t := by
  rcases lt_trichotomy s t with q | q | q
  · exact absurd hp (place_lt_place R s t h q).ne
  · exact q
  · exact absurd hp (place_lt_place R t s h.symm q).ne'

variable (R : Fin 32768 → Fin 64) (r : Arr Ideal S32768 .i32) (hr : ∀ t, r (ix1 t) = BitVec.ofNat 32 (R t).val)
include hr

/-- The one-hot array holds one at each token's expert, zero elsewhere. -/
theorem oneHot_word (e : Fin 64) (t : Fin 32768) : oneHot (F := Ideal) r (ix2 t e) = BitVec.ofNat 32 (sent R e t.val) := by
  have hne : ∀ a b : Fin 64, (BitVec.ofNat 32 a.val = BitVec.ofNat 32 b.val) ↔ a = b := by
    intro a b
    refine ⟨fun h => Fin.ext ?_, fun h => h ▸ rfl⟩
    have h' := congrArg BitVec.toInt h
    rw [toInt_word _ (by have := a.isLt; omega), toInt_word _ (by have := b.isLt; omega)] at h'
    exact_mod_cast h'
  rw [oneHot_apply, hr]
  show BitVec.setWidth 32 (BitVec.ofBool (decide (BitVec.ofNat 32 (R t).val = BitVec.ofNat 32 e.val))) = _
  rw [sent, dif_pos t.isLt]
  by_cases h : R t = e
  · rw [if_pos h, decide_eq_true ((hne _ _).mpr h)]; rfl
  · rw [if_neg h, decide_eq_false (fun q => h ((hne _ _).mp q))]; rfl

/-- The running counts hold the number of tokens so far sent to the expert. -/
theorem counts_word (e : Fin 64) (t : Fin 32768) :
    counts (F := Ideal) (oneHot (F := Ideal) r) (ix2 t e) = BitVec.ofNat 32 (seen R (t.val + 1) e) := by
  rw [← sum_sent R e _ t.isLt]
  exact column_sum (N := 32768) (Nm1 := 32767) (C := 64) rfl (oneHot (F := Ideal) r) e (sent R e) (oneHot_word R r hr e) S_ _
    h_S_ rfl reduceWindows_S32768x64_S32768x64_w32768s1p32767_0_w1s1p0_0 t

/-- The rank of a token at its expert is its place. -/
theorem ranks_word (t : Fin 32768) : ranksOf (F := Ideal) r (ix2 t (R t)) = BitVec.ofNat 32 (place R t) := by
  rw [ranksOf, ranks_apply, counts_word R r hr, seen_next R _ _ t.isLt, ← place_eq_seen, sent, dif_pos t.isLt, if_pos rfl]
  rw [BitVec.ofNat_add]
  exact BitVec.add_sub_cancel _ _

/-- The position found for a token is its place. -/
theorem positions_word (t : Fin 32768) : positionsOf (F := Ideal) r (ix1 t) = BitVec.ofNat 32 (place R t) := by
  rw [positionsOf, positions_apply, picked_apply _ _ t (R t), ranks_word R r hr]
  rw [wrapped_apply, hr]
  exact Routing.wrap_of_lt _ _ (by rw [BitVec.toNat_ofNat]; have := (R t).isLt; omega)

/-- A token is kept when its place is below the capacity. -/
theorem kept_word (t : Fin 32768) : keptOf (F := Ideal) r (ix1 t) = BitVec.ofBool (decide (place R t < 640)) := by
  rw [keptOf, kept_apply, positions_word R r hr]
  show BitVec.ofBool (decide ((BitVec.ofNat 32 (place R t)).toInt < (640#32).toInt)) = _
  have h := place_lt R t
  rw [toInt_word _ (by omega), toInt_word 640 (by norm_num)]
  exact congrArg BitVec.ofBool (decide_eq_decide.mpr (Nat.cast_lt.trans Iff.rfl))

/-- The slot of a token: its expert's first slot and its place, cut to the capacity. -/
def slotNo (R : Fin 32768 → Fin 64) (t : Fin 32768) : Fin 40960 :=
  ⟨(R t).val * 640 + min (place R t) 639, by have := (R t).isLt; omega⟩

/-- The slot found for a token. -/
theorem slots_word (t : Fin 32768) : slotsOf (F := Ideal) r (ix1 t) = BitVec.ofNat 32 (slotNo R t).val := by
  have h := place_lt R t
  have hm : IntOp.minsi (BitVec.ofNat 32 (place R t)) 639#32 = BitVec.ofNat 32 (min (place R t) 639) := by
    apply BitVec.eq_of_toNat_eq
    rw [WordArith.toNat_minsi_of_lt _ 639#32 (by rw [BitVec.toNat_ofNat]; omega) (by norm_num)]
    simp only [BitVec.toNat_ofNat]
    omega
  rw [slotsOf, slots_apply, positions_word R r hr, hr, hm]
  show BitVec.ofNat 32 (R t).val * BitVec.ofNat 32 640 + BitVec.ofNat 32 (min (place R t) 639) = _
  rw [← BitVec.ofNat_mul, ← BitVec.ofNat_add]
  rfl

/-- The index word of a token's slot. -/
theorem slotCol_word (t : Fin 32768) : slotCol (F := Ideal) (slotsOf (F := Ideal) r) (ix2 t 0) = BitVec.ofNat 32 (slotNo R t).val := by
  rw [slotCol_apply, slots_word R r hr]
  exact Routing.wrap_of_lt _ _ (by rw [BitVec.toNat_ofNat]; have := (slotNo R t).isLt; omega)

/-- The index word of a token's target: its slot when it is kept, the number of slots otherwise. -/
theorem target_word (t : Fin 32768) :
    targetCol (F := Ideal) (targets (F := Ideal) (keptOf (F := Ideal) r) (slotsOf (F := Ideal) r)) (ix2 t 0)
      = BitVec.ofNat 32 (if place R t < 640 then (slotNo R t).val else 40960) := by
  have ht : targets (F := Ideal) (keptOf (F := Ideal) r) (slotsOf (F := Ideal) r) (ix1 t)
      = BitVec.ofNat 32 (if place R t < 640 then (slotNo R t).val else 40960) := by
    rw [targets_apply, kept_word R r hr, slots_word R r hr]
    by_cases h : place R t < 640
    · rw [if_pos h, decide_eq_true h]; rfl
    · rw [if_neg h, decide_eq_false h]; rfl
  rw [targetCol_apply, ht]
  refine Routing.wrap_of_lt _ _ ?_
  rw [BitVec.toNat_ofNat]
  have := (slotNo R t).isLt
  split <;> omega

end Cert.Moe.Ref

end
-- ==== Proof.RefBuffer.lean ====
/- The array of the experts' slots: where each token lands, and what a slot holds. -/
module

public import proofs.«01_k».proof.Proof.RefStages
public import proofs.«01_k».proof.Proof.Spec
public import Idealize.ShloMosaic.Lib.Pointwise
public import Idealize.ShloMosaic.Lib.Routing.OpsSet
public import Idealize.ShloMosaic.Lib.Routing.OpsPair

@[expose] public section

noncomputable section

namespace Cert.Moe.Ref

open Cert.ReferenceIdeal Cert.ReferenceIdeal.Gen Idealize.ShloMosaic

/-- An entry of a token lands at a slot and a column exactly when the token's index word is the slot and the column is the entry's. -/
theorem lands_iff (i : Arr Ideal S32768x1 .i32) (t : Fin 32768) (k : Fin 768) (s : Fin 40960) (c : Fin 768) :
    scatter_S40960x768_S32768x1_S32768x768_1_0_0_1.resultIdx? (ix2 t k) i = some (ix2 s c)
      ↔ (BitVec.toInt (i (ix2 t 0)) = s.val ∧ k.val = c.val) := by
  have h0 : scatter_S40960x768_S32768x1_S32768x768_1_0_0_1.window (ix2 t k) (0 : Fin 2) = 0 := rfl
  have h1 : scatter_S40960x768_S32768x1_S32768x768_1_0_0_1.window (ix2 t k) (1 : Fin 2) = k.val := rfl
  have h2 : scatter_S40960x768_S32768x1_S32768x768_1_0_0_1.start (ix2 t k) i (1 : Fin 2) = 0 := rfl
  have h3 : scatter_S40960x768_S32768x1_S32768x768_1_0_0_1.start (ix2 t k) i (0 : Fin 2) = BitVec.toInt (i (ix2 t 0)) := by
    unfold ScatterDims.start
    rw [dif_pos (show (0 : Fin 2) ∈ scatter_S40960x768_S32768x1_S32768x768_1_0_0_1.scatterDimsToOperandDims from
      List.mem_singleton.mpr rfl)]
    refine congrArg (fun q => BitVec.toInt (i q)) (funext fun b => Fin.ext ?_)
    match b with
    | ⟨0, _⟩ => rfl
    | ⟨1, _⟩ => rfl
  have key := Routing.resultIdx?_ix2 scatter_S40960x768_S32768x1_S32768x768_1_0_0_1 (ix2 t k) i s c
  rw [← ix2_eq_valueIdx] at key
  refine key.trans ?_
  rw [h0, h1, h2, h3]
  constructor
  · rintro ⟨p, q⟩; exact ⟨by simpa using p, by exact_mod_cast (zero_add (k.val : ℤ)).symm.trans q⟩
  · rintro ⟨p, q⟩; exact ⟨by simpa using p, by rw [q, zero_add]⟩

/-- A slot to which exactly one token is sent holds that token's row. -/
theorem buffer_apply (i : Arr Ideal S32768x1 .i32) (x : Arr Ideal S32768x768 .f32) (t : Fin 32768) (s : Fin 40960) (k : Fin 768)
    (h : BitVec.toInt (i (ix2 t 0)) = s.val) (h' : ∀ t' : Fin 32768, BitVec.toInt (i (ix2 t' 0)) = s.val → t' = t) :
    buffer i x (ix2 s k) = x (ix2 t k) := by
  refine Routing.scatter_set_hit _ _ _ _ _ _ (fun q hq => ?_) (ix2 t k) ((lands_iff i t k s k).mpr ⟨h, rfl⟩)
  obtain ⟨a, b, rfl⟩ : ∃ (a : Fin 32768) (b : Fin 768), q = ix2 a b := ⟨q 0, q 1, eq_ix2 q⟩
  obtain ⟨p, p'⟩ := (lands_iff i a b s k).mp hq
  rw [h' a p, Fin.ext p']

end Cert.Moe.Ref

end
-- ==== Proof.RefRows.lean ====
/- The reference's stages on rows, each read at one entry. -/
module

public import proofs.«01_k».proof.Proof.RefStages
public import proofs.«01_k».proof.Proof.Spec

@[expose] public section

noncomputable section

namespace Cert.Moe.Ref

open Cert.ReferenceIdeal Cert.ReferenceIdeal.Gen Idealize.ShloMosaic

set_option maxRecDepth 65536 in
/-- The row of a token: the one taken back when it is kept, its own otherwise. -/
theorem rows_apply (b : Arr Ideal S32768 .i1) (z x : Arr Ideal S32768x768 .f32) (t : Fin 32768) (j : Fin 768) :
    rows b z x (ix2 t j) = Scalar.select (b (ix1 t)) (z (ix2 t j)) (x (ix2 t j)) := by
  pointwise [rows]

set_option maxRecDepth 65536 in
/-- The weight of a token. -/
theorem weights_apply (b : Arr Ideal S32768 .i1) (p : Arr Ideal S32768 .f32) (t : Fin 32768) :
    weights b p (ix1 t) = Scalar.select (b (ix1 t)) (p (ix1 t)) (Ideal.ofBits .f32 0x3F800000#32) := by
  pointwise [weights]

set_option maxRecDepth 65536 in
/-- The output at a token and a column. -/
theorem output_apply (z : Arr Ideal S32768x768 .f32) (g : Arr Ideal S32768 .f32) (t : Fin 32768) (j : Fin 768) :
    output z g (ix2 t j) = z (ix2 t j) * g (ix1 t) := by
  pointwise [output]

set_option maxRecDepth 65536 in
/-- The first layer at a slot and a unit. -/
theorem pre_apply (u : Arr Ideal S40960x768 .f32) (w1 : Arr Ideal S768x3072 .f32) (b1 : Arr Ideal S3072 .f32)
    (s : Fin 40960) (f : Fin 3072) :
    pre u w1 b1 (ix2 s f) = (∑ k : Fin 768, u (ix2 s k) * w1 (ix2 k f)) + b1 (ix1 f) := by
  pointwise [pre]

set_option maxRecDepth 65536 in
/-- The linear unit at a slot and a unit. -/
theorem act_apply (h : Arr Ideal S40960x3072 .f32) (s : Fin 40960) (f : Fin 3072) :
    act (halved h) (negated h) (ix2 s f) = gelu (h (ix2 s f)) := by
  rw [← gelu_eq_erfc]
  pointwise [act, halved, negated]

set_option maxRecDepth 65536 in
/-- The second layer at a slot and a column. -/
theorem results_apply (a : Arr Ideal S40960x3072 .f32) (w2 : Arr Ideal S3072x768 .f32) (b2 : Arr Ideal S768 .f32)
    (s : Fin 40960) (j : Fin 768) :
    results a w2 b2 (ix2 s j) = (∑ f : Fin 3072, a (ix2 s f) * w2 (ix2 f j)) + b2 (ix1 j) := by
  pointwise [results]

/-- The network's rows are the specification's network of the slots' rows. -/
theorem resultsOf_apply (u : Arr Ideal S40960x768 .f32) (w1 : Arr Ideal S768x3072 .f32) (b1 : Arr Ideal S3072 .f32)
    (w2 : Arr Ideal S3072x768 .f32) (b2 : Arr Ideal S768 .f32) (s : Fin 40960) (j : Fin 768) :
    resultsOf u w1 b1 w2 b2 (ix2 s j)
      = ffn (fun k => u (ix2 s k)) (fun k f => w1 (ix2 k f)) (fun f => b1 (ix1 f)) (fun f j => w2 (ix2 f j)) (fun j => b2 (ix1 j)) j := by
  rw [resultsOf, results_apply]
  simp only [act_apply, pre_apply]
  rfl

end Cert.Moe.Ref

end
-- ==== Proof.RefValue.lean ====
/- The reference's result at one entry is the specification's. -/
module

public import proofs.«01_k».proof.Proof.RefRouter
public import proofs.«01_k».proof.Proof.Argmax
public import proofs.«01_k».proof.Proof.RefCount
public import proofs.«01_k».proof.Proof.RefBuffer
public import proofs.«01_k».proof.Proof.RefRows

@[expose] public section

noncomputable section

namespace Cert.Moe.Ref

open Cert.ReferenceIdeal Cert.ReferenceIdeal.Gen Idealize.ShloMosaic

/-- Two kept tokens of one slot are the same token: the slot tells the expert and the place. -/
theorem eq_of_slot (R : Fin 32768 → Fin 64) (s t : Fin 32768) (hs : place R s < 640) (ht : place R t < 640)
    (h : (slotNo R s).val = (slotNo R t).val) : s = t := by
  have h' : (R s).val * 640 + min (place R s) 639 = (R t).val * 640 + min (place R t) 639 := h
  have hR : (R s).val = (R t).val := by omega
  exact eq_of_place R s t (Fin.ext hR) (by omega)

/-- A kept token's slot holds the token's row. -/
theorem bufferOf_apply (R : Fin 32768 → Fin 64) (r : Arr Ideal S32768 .i32) (hr : ∀ t, r (ix1 t) = BitVec.ofNat 32 (R t).val)
    (x : Arr Ideal S32768x768 .f32) (t : Fin 32768) (ht : place R t < 640) (k : Fin 768) :
    bufferOf x r (ix2 (slotNo R t) k) = x (ix2 t k) := by
  refine buffer_apply _ x t (slotNo R t) k ?_ fun t' h' => ?_
  · rw [target_word R r hr, if_pos ht]
    exact toInt_word _ (by have := (slotNo R t).isLt; omega)
  · rw [target_word R r hr] at h'
    by_cases q : place R t' < 640
    · rw [if_pos q, toInt_word _ (by have := (slotNo R t').isLt; omega)] at h'
      exact eq_of_slot R t' t q ht (by exact_mod_cast h')
    · rw [if_neg q, toInt_word _ (by norm_num)] at h'
      have := (slotNo R t).isLt
      omega

/-- The last stages at a token and a column: a kept token's row of the network's times its weight, another token's own row. -/
theorem finish_apply (R : Fin 32768 → Fin 64) (r : Arr Ideal S32768 .i32) (hr : ∀ t, r (ix1 t) = BitVec.ofNat 32 (R t).val)
    (x : Arr Ideal S32768x768 .f32) (p : Arr Ideal S32768 .f32) (y : Arr Ideal S40960x768 .f32) (t : Fin 32768) (j : Fin 768) :
    finish x p (keptOf (F := Ideal) r) (slotsOf (F := Ideal) r) y (ix2 t j)
      = if place R t < 640 then y (ix2 (slotNo R t) j) * p (ix1 t) else x (ix2 t j) := by
  rw [finish, output_apply, rows_apply, weights_apply, kept_word R r hr, taken_apply _ y t j _ (slotCol_word R r hr t)]
  by_cases h : place R t < 640
  · rw [if_pos h, decide_eq_true h]; rfl
  · rw [if_neg h, decide_eq_false h]
    show x (ix2 t j) * Ideal.ofBits .f32 0x3F800000#32 = x (ix2 t j)
    rw [Ideal.ofBits_one_f32, mul_one]

/-- The reference's result at a token and a column is the specification's. -/
theorem resultOf_apply (x : Arr Ideal S32768x768 .f32) (ws : Arr Ideal S768x64 .f32) (bs : Arr Ideal S64 .f32)
    (w1 : Arr Ideal S768x3072 .f32) (b1 : Arr Ideal S3072 .f32) (w2 : Arr Ideal S3072x768 .f32) (b2 : Arr Ideal S768 .f32)
    (t : Fin 32768) (j : Fin 768) :
    resultOf x ws bs w1 b1 w2 b2 (ix2 t j)
      = out (fun t k => x (ix2 t k)) (fun k e => ws (ix2 k e)) (fun e => bs (ix1 e)) (fun k f => w1 (ix2 k f)) (fun f => b1 (ix1 f))
          (fun f j => w2 (ix2 f j)) (fun j => b2 (ix1 j)) t j := by
  have hp : ∀ t, (fun e => probsOf x ws bs (ix2 t e)) = prob (fun k => x (ix2 t k)) (fun k e => ws (ix2 k e)) (fun e => bs (ix1 e)) :=
    fun t => funext fun e => probsOf_apply x ws bs t e
  have hr : ∀ t, routesOf x ws bs (ix1 t)
      = BitVec.ofNat 32 (route (fun t k => x (ix2 t k)) (fun k e => ws (ix2 k e)) (fun e => bs (ix1 e)) t).val := fun t => by
    rw [routesOf, routes_apply, hp, route]
  rw [resultOf, finish_apply _ _ hr, out]
  by_cases h : place (route (fun t k => x (ix2 t k)) (fun k e => ws (ix2 k e)) (fun e => bs (ix1 e))) t < 640
  · rw [if_pos h, if_pos h, best_apply, hp, resultsOf_apply]
    simp only [bufferOf_apply _ _ hr x t h]
  · rw [if_neg h, if_neg h]

end Cert.Moe.Ref

end
-- ==== Proof.Equation.lean ====
/- The equation: on equal arguments the kernel's array and the reference's are the same. -/
module

public import proofs.«01_k».proof.Proof.KernelValue
public import proofs.«01_k».proof.Proof.RefValue

@[expose] public section

noncomputable section

namespace Cert.Moe

open Idealize.ShloMosaic Idealize.ShloMosaic.TcCoe Idealize.SL.Sem
open Cert.KernelIdeal Cert.KernelIdeal.Value Cert.Moe.KernelValue

/-- The reference's result of the kernel's arguments is the array the kernel leaves. -/
theorem result_eq (m : (ℓ : Loc nD τ sig) → Buf (Elt Ideal) ℓ) (c : Dev nD)
    (x : Ref.Arr Ideal Cert.ReferenceIdeal.S32768x768 .f32) (ws : Ref.Arr Ideal Cert.ReferenceIdeal.S768x64 .f32)
    (bs : Ref.Arr Ideal Cert.ReferenceIdeal.S64 .f32) (w1 : Ref.Arr Ideal Cert.ReferenceIdeal.S768x3072 .f32)
    (b1 : Ref.Arr Ideal Cert.ReferenceIdeal.S3072 .f32) (w2 : Ref.Arr Ideal Cert.ReferenceIdeal.S3072x768 .f32)
    (b2 : Ref.Arr Ideal Cert.ReferenceIdeal.S768 .f32)
    (hx : x = m ((c : Thread nD τ).loc main_arg0)) (hws : ws = m ((c : Thread nD τ).loc main_arg1))
    (hbs : bs = m ((c : Thread nD τ).loc main_arg2)) (hw1 : w1 = m ((c : Thread nD τ).loc main_arg3))
    (hb1 : b1 = m ((c : Thread nD τ).loc main_arg4)) (hw2 : w2 = m ((c : Thread nD τ).loc main_arg5))
    (hb2 : b2 = m ((c : Thread nD τ).loc main_arg6)) :
    Ref.resultOf x ws bs w1 b1 w2 b2 = G7 m c := by
  subst hx hws hbs hw1 hb1 hw2 hb2
  funext i
  obtain ⟨t, j, rfl⟩ : ∃ (t : Fin 32768) (j : Fin 768), i = ix2 t j := ⟨i 0, i 1, eq_ix2 i⟩
  exact (Ref.resultOf_apply _ _ _ _ _ _ _ t j).trans (result_apply m c t j).symm

end Cert.Moe

end
-- ==== Proof.lean ====
/- The five claims, put together: the kernel and its idealization leave their arguments and every semaphore counter in
   order, so does the reference, the idealization changes nothing the kernel does, and on equal arguments the idealized
   kernel and the reference leave the same array. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.RefRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- On equal arguments the idealized kernel and the reference both run, leave their arguments alone and return one array. -/
theorem algebraic : Cert.algebraic_KernelIdeal_ReferenceIdeal (hKernelIdeal := Cert.KernelIdeal.Gen.facts)
    (hReferenceIdeal := Cert.ReferenceIdeal.Gen.facts) := by
  intro m g m' g' _ h
  refine ⟨fun c => Cert.KernelIdeal.Value.G7 m c, Cert.KernelIdeal.Value.run m g, ?_⟩
  refine (θ_run Cert.ReferenceIdeal.defs _ _).mono (fun r hr c => ?_) (Cert.Moe.Ref.run m' g')
  obtain ⟨h0, h1, h2, h3, h4, h5, h6⟩ := h c
  exact ⟨(hr c).1.trans (Cert.Moe.result_eq m c _ _ _ _ _ _ _ h0 h1 h2 h3 h4 h5 h6), (hr c).2⟩

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.Moe.Ref.frame m ρ,
  trivial, algebraic⟩

end Cert.Proof

end
